-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_domain [hPre_domain : Cert.Pre_domain.Facts] (m : (ℓ : Loc Cert.KernelIdeal.nD Cert.KernelIdeal.τ Cert.KernelIdeal.sig) → Buf (Elt Ideal) ℓ) : Prop :=
  ∀ c : Dev Cert.KernelIdeal.nD,
    (Cert.Pre_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_domain [hPre_domain : Cert.Pre_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_domain [hKernelIdeal : Cert.KernelIdeal.Facts] [hPre_domain : Cert.Pre_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_domain m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_domain [hReferenceIdeal : Cert.ReferenceIdeal.Facts] [hPre_domain : Cert.Pre_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_domain m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "inv_ln2" .f32 0x3FB8AA3B#32 (((Real.log 2)⁻¹ : ℝ) : EReal)

def algebraic_KernelIdeal_ReferenceIdeal_pre_domain [hKernelIdeal : Cert.KernelIdeal.Facts] [hReferenceIdeal : Cert.ReferenceIdeal.Facts] [hPre_domain : Cert.Pre_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_domain m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_domain : Cert.Pre_domain.Facts),
    quiescent_Kernel (hKernel := hKernel)
    ∧ quiescent_KernelIdeal (hKernelIdeal := hKernelIdeal)
    ∧ quiescent_KernelIdeal_pre_domain (hKernelIdeal := hKernelIdeal) (hPre_domain := hPre_domain)
    ∧ quiescent_ReferenceIdeal (hReferenceIdeal := hReferenceIdeal)
    ∧ quiescent_ReferenceIdeal_pre_domain (hReferenceIdeal := hReferenceIdeal) (hPre_domain := hPre_domain)
    ∧ preserves_Kernel_KernelIdeal
    ∧ algebraic_KernelIdeal_ReferenceIdeal_pre_domain (hKernelIdeal := hKernelIdeal) (hReferenceIdeal := hReferenceIdeal) (hPre_domain := hPre_domain)
-- ==== Pre_domain.lean ====
abbrev S16x128x4000 : Shape := ⟨3, ![16, 128, 4000]⟩
abbrev S10x128 : Shape := ⟨2, ![10, 128]⟩
abbrev S128 : Shape := ⟨1, ![128]⟩
abbrev S_ : Shape := ⟨0, ![]⟩

class Facts : Prop where
  bcast_S_S16x128x4000 : S_.BroadcastsInDim S16x128x4000 (![] : Fin 0 → Fin S16x128x4000.rank)
  reducesTo_S16x128x4000_S_d0_1_2 : S16x128x4000.ReducesTo [0, 1, 2] S_
  h_S_ : 0 < S_.numel
  bcast_S_S10x128 : S_.BroadcastsInDim S10x128 (![] : Fin 0 → Fin S10x128.rank)
  reducesTo_S10x128_S_d0_1 : S10x128.ReducesTo [0, 1] S_

variable [Facts]

def fn {F : FTy → Type} [FloatOps F] (main_arg0 : FVec F S16x128x4000 .f32) (main_arg1 : FVec F S10x128 .f32) (main_arg2 : FVec F S128 .f32) (main_arg3 : FVec F S128 .f32) (main_arg4 : FVec F S128 .f32) : IVec S_ 1 :=
  let main_cst : FVec F S_ .f32 := constant S_ .f32 0x00000000#32
  let main_v0 : FVec F S16x128x4000 .f32 := broadcastInDim S16x128x4000 ![] bcast_S_S16x128x4000 main_cst
  let main_v1 : IVec S16x128x4000 1 := cmpf .oge main_arg0 main_v0
  let main_c : IVec S_ 1 := constantI S_ 1 1#1
  let main_v2 : IVec S_ 1 := (fun x v => Host.reduce IntOp.andi x v reducesTo_S16x128x4000_S_d0_1_2 h_S_) main_v1 main_c
  let main_cst_0 : FVec F S_ .f32 := constant S_ .f32 0x7F800000#32
  let main_v3 : FVec F S16x128x4000 .f32 := broadcastInDim S16x128x4000 ![] bcast_S_S16x128x4000 main_cst_0
  let main_v4 : IVec S16x128x4000 1 := cmpf .olt main_arg0 main_v3
  let main_c_1 : IVec S_ 1 := constantI S_ 1 1#1
  let main_v5 : IVec S_ 1 := (fun x v => Host.reduce IntOp.andi x v reducesTo_S16x128x4000_S_d0_1_2 h_S_) main_v4 main_c_1
  let main_v6 : IVec S_ 1 := andi main_v2 main_v5
  let main_cst_2 : FVec F S_ .f32 := constant S_ .f32 0x00000000#32
  let main_v7 : FVec F S10x128 .f32 := broadcastInDim S10x128 ![] bcast_S_S10x128 main_cst_2
  let main_v8 : IVec S10x128 1 := cmpf .olt main_arg1 main_v7
  let main_c_3 : IVec S_ 1 := constantI S_ 1 1#1
  let main_v9 : IVec S_ 1 := (fun x v => Host.reduce IntOp.andi x v reducesTo_S10x128_S_d0_1 h_S_) main_v8 main_c_3
  let main_v10 : IVec S_ 1 := andi main_v6 main_v9
  main_v10
-- ==== Kernel.lean ====
abbrev S16x128x4000 : Shape := ⟨3, ![16, 128, 4000]⟩
abbrev S10x128 : Shape := ⟨2, ![10, 128]⟩
abbrev S128 : Shape := ⟨1, ![128]⟩
abbrev S128x128 : Shape := ⟨2, ![128, 128]⟩
abbrev S_ : Shape := ⟨0, ![]⟩
abbrev S10x128x1 : Shape := ⟨3, ![10, 128, 1]⟩
abbrev S1x1x128 : Shape := ⟨3, ![1, 1, 128]⟩
abbrev S10x128x128 : Shape := ⟨3, ![10, 128, 128]⟩
abbrev S128x1 : Shape := ⟨2, ![128, 1]⟩
abbrev S10x128x512 : Shape := ⟨3, ![10, 128, 512]⟩
abbrev S128x4 : Shape := ⟨2, ![128, 4]⟩
abbrev S16x128x4096 : Shape := ⟨3, ![16, 128, 4096]⟩
abbrev S16x10x128x4000 : Shape := ⟨4, ![16, 10, 128, 4000]⟩
abbrev S1x128x4096 : Shape := ⟨3, ![1, 128, 4096]⟩
abbrev S1x128x512 : Shape := ⟨3, ![1, 128, 512]⟩
abbrev S4x128x4000 : Shape := ⟨3, ![4, 128, 4000]⟩
abbrev S4 : Shape := ⟨1, ![4]⟩
abbrev S1 : Shape := ⟨1, ![1]⟩
abbrev S1x1x128x4000 : Shape := ⟨4, ![1, 1, 128, 4000]⟩
abbrev S128x4000 : Shape := ⟨2, ![128, 4000]⟩
abbrev S1x128x4000 : Shape := ⟨3, ![1, 128, 4000]⟩
abbrev S1x128x128 : Shape := ⟨3, ![1, 128, 128]⟩
abbrev S128x32 : Shape := ⟨2, ![128, 32]⟩
abbrev S1x128x32 : Shape := ⟨3, ![1, 128, 32]⟩

abbrev nBuf : Space → Nat
  | .hbm => 88
  | .vmem => 7
  | .smem => 0
  | _ => 0

abbrev bufTy : (tb : Table) → Fin (tcTables nBuf tb) → BufTy
  | .hbm, ⟨0, _⟩ => ⟨S16x128x4000, .f32⟩
  | .hbm, ⟨1, _⟩ => ⟨S10x128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S128x128, .bf16⟩
  | .hbm, ⟨6, _⟩ => ⟨S10x128, .f32⟩
  | .hbm, ⟨7, _⟩ => ⟨S10x128, .f32⟩
  | .hbm, ⟨8, _⟩ => ⟨S10x128, .f32⟩
  | .hbm, ⟨9, _⟩ => ⟨S_, .f32⟩
  | .hbm, ⟨10, _⟩ => ⟨S10x128, .f32⟩
  | .hbm, ⟨11, _⟩ => ⟨S10x128, .f32⟩
  | .hbm, ⟨12, _⟩ => ⟨S10x128x1, .f32⟩
  | .hbm, ⟨13, _⟩ => ⟨S128, .f32⟩
  | .hbm, ⟨14, _⟩ => ⟨S_, .f32⟩
  | .hbm, ⟨15, _⟩ => ⟨S128, .f32⟩
  | .hbm, ⟨16, _⟩ => ⟨S128, .f32⟩
  | .hbm, ⟨17, _⟩ => ⟨S128, .f32⟩
  | .hbm, ⟨18, _⟩ => ⟨S_, .f32⟩
  | .hbm, ⟨19, _⟩ => ⟨S128, .f32⟩
  | .hbm, ⟨20, _⟩ => ⟨S128, .f32⟩
  | .hbm, ⟨21, _⟩ => ⟨S128, .f32⟩
  | .hbm, ⟨22, _⟩ => ⟨S_, .f32⟩
  | .hbm, ⟨23, _⟩ => ⟨S128, .f32⟩
  | .hbm, ⟨24, _⟩ => ⟨S128, .f32⟩
  | .hbm, ⟨25, _⟩ => ⟨S1x1x128, .f32⟩
  | .hbm, ⟨26, _⟩ => ⟨S10x128x128, .f32⟩
  | .hbm, ⟨27, _⟩ => ⟨S10x128x128, .f32⟩
  | .hbm, ⟨28, _⟩ => ⟨S10x128x128, .f32⟩
  | .hbm, ⟨29, _⟩ => ⟨S_, .f32⟩
  | .hbm, ⟨30, _⟩ => ⟨S10x128x128, .f32⟩
  | .hbm, ⟨31, _⟩ => ⟨S10x128x128, .f32⟩
  | .hbm, ⟨32, _⟩ => ⟨S10x128x128, .f32⟩
  | .hbm, ⟨33, _⟩ => ⟨S1x1x128, .f32⟩
  | .hbm, ⟨34, _⟩ => ⟨S10x128x128, .f32⟩
  | .hbm, ⟨35, _⟩ => ⟨S10x128x128, .f32⟩
  | .hbm, ⟨36, _⟩ => ⟨S10x128x128, .f32⟩
  | .hbm, ⟨37, _⟩ => ⟨S_, .f32⟩
  | .hbm, ⟨38, _⟩ => ⟨S10x128x128, .f32⟩
  | .hbm, ⟨39, _⟩ => ⟨S10x128x128, .f32⟩
  | .hbm, ⟨40, _⟩ => ⟨S10x128x128, .f32⟩
  | .hbm, ⟨41, _⟩ => ⟨S10x128x1, .f32⟩
  | .hbm, ⟨42, _⟩ => ⟨S10x128x1, .f32⟩
  | .hbm, ⟨43, _⟩ => ⟨S1x1x128, .f32⟩
  | .hbm, ⟨44, _⟩ => ⟨S10x128x128, .f32⟩
  | .hbm, ⟨45, _⟩ => ⟨S10x128x128, .f32⟩
  | .hbm, ⟨46, _⟩ => ⟨S10x128x128, .f32⟩
  | .hbm, ⟨47, _⟩ => ⟨S_, .f32⟩
  | .hbm, ⟨48, _⟩ => ⟨S10x128x128, .f32⟩
  | .hbm, ⟨49, _⟩ => ⟨S10x128x128, .f32⟩
  | .hbm, ⟨50, _⟩ => ⟨S10x128x128, .f32⟩
  | .hbm, ⟨51, _⟩ => ⟨S10x128x128, .f32⟩
  | .hbm, ⟨52, _⟩ => ⟨S10x128x128, .f32⟩
  | .hbm, ⟨53, _⟩ => ⟨S_, .f32⟩
  | .hbm, ⟨54, _⟩ => ⟨S128, .f32⟩
  | .hbm, ⟨55, _⟩ => ⟨S128, .i1⟩
  | .hbm, ⟨56, _⟩ => ⟨S_, .f32⟩
  | .hbm, ⟨57, _⟩ => ⟨S128, .f32⟩
  | .hbm, ⟨58, _⟩ => ⟨S128, .f32⟩
  | .hbm, ⟨59, _⟩ => ⟨S1x1x128, .f32⟩
  | .hbm, ⟨60, _⟩ => ⟨S10x128x128, .f32⟩
  | .hbm, ⟨61, _⟩ => ⟨S10x128x128, .f32⟩
  | .hbm, ⟨62, _⟩ => ⟨S10x128x128, .f32⟩
  | .hbm, ⟨63, _⟩ => ⟨S_, .f32⟩
  | .hbm, ⟨64, _⟩ => ⟨S10x128x128, .f32⟩
  | .hbm, ⟨65, _⟩ => ⟨S10x128x128, .f32⟩
  | .hbm, ⟨66, _⟩ => ⟨S10x128x128, .f32⟩
  | .hbm, ⟨67, _⟩ => ⟨S_, .f32⟩
  | .hbm, ⟨68, _⟩ => ⟨S_, .f32⟩
  | .hbm, ⟨69, _⟩ => ⟨S10x128x128, .i1⟩
  | .hbm, ⟨70, _⟩ => ⟨S10x128x128, .f32⟩
  | .hbm, ⟨71, _⟩ => ⟨S10x128x128, .f32⟩
  | .hbm, ⟨72, _⟩ => ⟨S128, .f32⟩
  | .hbm, ⟨73, _⟩ => ⟨S128, .f32⟩
  | .hbm, ⟨74, _⟩ => ⟨S128, .f32⟩
  | .hbm, ⟨75, _⟩ => ⟨S128x1, .f32⟩
  | .hbm, ⟨76, _⟩ => ⟨S128x1, .f32⟩
  | .hbm, ⟨77, _⟩ => ⟨S128, .f32⟩
  | .hbm, ⟨78, _⟩ => ⟨S128x1, .f32⟩
  | .hbm, ⟨79, _⟩ => ⟨S128, .f32⟩
  | .hbm, ⟨80, _⟩ => ⟨S128, .f32⟩
  | .hbm, ⟨81, _⟩ => ⟨S128x1, .f32⟩
  | .hbm, ⟨82, _⟩ => ⟨S10x128x512, .f32⟩
  | .hbm, ⟨83, _⟩ => ⟨S128x4, .f32⟩
  | .hbm, ⟨84, _⟩ => ⟨S_, .i32⟩
  | .hbm, ⟨85, _⟩ => ⟨S_, .f32⟩
  | .hbm, ⟨86, _⟩ => ⟨S16x128x4096, .f32⟩
  | .hbm, ⟨87, _⟩ => ⟨S16x10x128x4000, .f32⟩
  | .local _ .vmem, ⟨0, _⟩ => ⟨S1x128x4096, .f32⟩
  | .local _ .vmem, ⟨1, _⟩ => ⟨S1x128x4096, .f32⟩
  | .local _ .vmem, ⟨2, _⟩ => ⟨S1x128x512, .f32⟩
  | .local _ .vmem, ⟨3, _⟩ => ⟨S1x128x512, .f32⟩
  | .local _ .vmem, ⟨4, _⟩ => ⟨S128x4, .f32⟩
  | .local _ .vmem, ⟨5, _⟩ => ⟨S128x128, .bf16⟩
  | .local _ .vmem, ⟨6, _⟩ => ⟨S4x128x4000, .f32⟩
  | _, _ => ⟨S16x128x4000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_7 : Ref sig .tc := ⟨.hbm, 53, rfl⟩
abbrev main_v40 : Ref sig .tc := ⟨.hbm, 54, rfl⟩
abbrev main_v41 : Ref sig .tc := ⟨.hbm, 55, rfl⟩
abbrev main_cst_8 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_9 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_10 : Ref sig .tc := ⟨.hbm, 67, rfl⟩
abbrev main_call0_v0 : Ref sig .tc := ⟨.hbm, 68, rfl⟩
abbrev main_call0_v1 : Ref sig .tc := ⟨.hbm, 69, rfl⟩
abbrev main_call0_v2 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_c : Ref sig .tc := ⟨.hbm, 84, rfl⟩
abbrev main_call1_v0 : Ref sig .tc := ⟨.hbm, 85, rfl⟩
abbrev main_v64 : Ref sig .tc := ⟨.hbm, 86, rfl⟩
abbrev main_v65 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨2, ![16, 10], ![false, false]⟩

def k0_cond1 (i : grid0.Coords) : BitVec 1 :=
  let arg0 : BitVec 32 := BitVec.ofNat 32 (i 0).val
  let c10_i32 : BitVec 32 := 10#32
  let v0 : BitVec 32 := Scalar.muli arg0 c10_i32
  let arg1 : BitVec 32 := BitVec.ofNat 32 (i 1).val
  let v1 : BitVec 32 := Scalar.addi v0 arg1
  let c4_i32_0 : BitVec 32 := 4#32
  let v3 : BitVec 1 := Scalar.cmpi .sge v1 c4_i32_0
  let v4 : BitVec 32 := Scalar.extui v3
  let c0_i32 : BitVec 32 := 0#32
  let v5 : BitVec 1 := Scalar.cmpi .ne v4 c0_i32
  v5

def k0_off1 (i : grid0.Coords) : Fin 1 → Nat :=
  let arg0 : BitVec 32 := BitVec.ofNat 32 (i 0).val
  let c10_i32 : BitVec 32 := 10#32
  let v0 : BitVec 32 := Scalar.muli arg0 c10_i32
  let arg1 : BitVec 32 := BitVec.ofNat 32 (i 1).val
  let v1 : BitVec 32 := Scalar.addi v0 arg1
  let c4_i32 : BitVec 32 := 4#32
  let v2 : BitVec 32 := Scalar.remsi v1 c4_i32
  ![v2.toNat]
def k0_off2 (i : grid0.Coords) : Fin 4 → Nat :=
  let arg0 : BitVec 32 := BitVec.ofNat 32 (i 0).val
  let c10_i32 : BitVec 32 := 10#32
  let v0 : BitVec 32 := Scalar.muli arg0 c10_i32
  let arg1 : BitVec 32 := BitVec.ofNat 32 (i 1).val
  let v1 : BitVec 32 := Scalar.addi v0 arg1
  let c4_i32_313 : BitVec 32 := 4#32
  let v1377 : BitVec 32 := Scalar.subi v1 c4_i32_313
  let c0_i32_315 : BitVec 32 := 0#32
  let v1379 : BitVec 1 := Scalar.cmpi .sgt v1377 c0_i32_315
  let v1380 : BitVec 32 := Scalar.extui v1379
  let c0_i32_316 : BitVec 32 := 0#32
  let v1381 : BitVec 1 := Scalar.cmpi .slt v1377 c0_i32_316
  let v1382 : BitVec 32 := Scalar.extui v1381
  let v1383 : BitVec 32 := Scalar.subi v1380 v1382
  let c10_i32_314 : BitVec 32 := 10#32
  let c0_i32_317 : BitVec 32 := 0#32
  let v1384 : BitVec 1 := Scalar.cmpi .sgt c10_i32_314 c0_i32_317
  let v1385 : BitVec 32 := Scalar.extui v1384
  let c0_i32_318 : BitVec 32 := 0#32
  let v1386 : BitVec 1 := Scalar.cmpi .slt c10_i32_314 c0_i32_318
  let v1387 : BitVec 32 := Scalar.extui v1386
  let v1388 : BitVec 32 := Scalar.subi v1385 v1387
  let v1389 : BitVec 1 := Scalar.cmpi .ne v1383 v1388
  let v1390 : BitVec 32 := Scalar.remsi v1377 c10_i32_314
  let c0_i32_319 : BitVec 32 := 0#32
  let v1391 : BitVec 1 := Scalar.cmpi .ne v1390 c0_i32_319
  let v1392 : BitVec 1 := Scalar.andi v1389 v1391
  let v1378 : BitVec 32 := Scalar.divsi v1377 c10_i32_314
  let c1_i32 : BitVec 32 := 1#32
  let v1393 : BitVec 32 := Scalar.subi v1378 c1_i32
  let v1394 : BitVec 32 := Scalar.select v1392 v1393 v1378
  let c10_i32_320 : BitVec 32 := 10#32
  let v1395 : BitVec 32 := Scalar.remsi v1377 c10_i32_320
  let c0_i32_321 : BitVec 32 := 0#32
  let c0_i32_322 : BitVec 32 := 0#32
  ![v1394.toNat, v1395.toNat, 0, 0]
def k0_off3 (i : grid0.Coords) : Fin 3 → Nat :=
  let arg0 : BitVec 32 := BitVec.ofNat 32 (i 0).val
  let c10_i32 : BitVec 32 := 10#32
  let v0 : BitVec 32 := Scalar.muli arg0 c10_i32
  let arg1 : BitVec 32 := BitVec.ofNat 32 (i 1).val
  let v1 : BitVec 32 := Scalar.addi v0 arg1
  let c4_i32 : BitVec 32 := 4#32
  let v2 : BitVec 32 := Scalar.remsi v1 c4_i32
  let c0_i32_323 : BitVec 32 := 0#32
  let c0_i32_324 : BitVec 32 := 0#32
  ![v2.toNat, 0, 0]
def k0_off4 (i : grid0.Coords) : Fin 3 → Nat :=
  let arg0 : BitVec 32 := BitVec.ofNat 32 (i 0).val
  let c10_i32 : BitVec 32 := 10#32
  let v0 : BitVec 32 := Scalar.muli arg0 c10_i32
  let arg1 : BitVec 32 := BitVec.ofNat 32 (i 1).val
  let v1 : BitVec 32 := Scalar.addi v0 arg1
  let c4_i32 : BitVec 32 := 4#32
  let v2 : BitVec 32 := Scalar.remsi v1 c4_i32
  let v62 : Index := Scalar.indexCast v2
  let c0_24 : Index := 0#32
  let c0_25 : Index := 0#32
  ![v62.toNat, 0, 0]
def k0_off5 (i : grid0.Coords) : Fin 3 → Nat :=
  let arg0 : BitVec 32 := BitVec.ofNat 32 (i 0).val
  let c10_i32 : BitVec 32 := 10#32
  let v0 : BitVec 32 := Scalar.muli arg0 c10_i32
  let arg1 : BitVec 32 := BitVec.ofNat 32 (i 1).val
  let v1 : BitVec 32 := Scalar.addi v0 arg1
  let c4_i32 : BitVec 32 := 4#32
  let v2 : BitVec 32 := Scalar.remsi v1 c4_i32
  let v104 : Index := Scalar.indexCast v2
  let c0_34 : Index := 0#32
  let c128_35 : Index := 128#32
  ![v104.toNat, 0, 128]
def k0_off6 (i : grid0.Coords) : Fin 3 → Nat :=
  let arg0 : BitVec 32 := BitVec.ofNat 32 (i 0).val
  let c10_i32 : BitVec 32 := 10#32
  let v0 : BitVec 32 := Scalar.muli arg0 c10_i32
  let arg1 : BitVec 32 := BitVec.ofNat 32 (i 1).val
  let v1 : BitVec 32 := Scalar.addi v0 arg1
  let c4_i32 : BitVec 32 := 4#32
  let v2 : BitVec 32 := Scalar.remsi v1 c4_i32
  let v146 : Index := Scalar.indexCast v2
  let c0_44 : Index := 0#32
  let c256_45 : Index := 256#32
  ![v146.toNat, 0, 256]
def k0_off7 (i : grid0.Coords) : Fin 3 → Nat :=
  let arg0 : BitVec 32 := BitVec.ofNat 32 (i 0).val
  let c10_i32 : BitVec 32 := 10#32
  let v0 : BitVec 32 := Scalar.muli arg0 c10_i32
  let arg1 : BitVec 32 := BitVec.ofNat 32 (i 1).val
  let v1 : BitVec 32 := Scalar.addi v0 arg1
  let c4_i32 : BitVec 32 := 4#32
  let v2 : BitVec 32 := Scalar.remsi v1 c4_i32
  let v188 : Index := Scalar.indexCast v2
  let c0_54 : Index := 0#32
  let c384_55 : Index := 384#32
  ![v188.toNat, 0, 384]
def k0_off8 (i : grid0.Coords) : Fin 3 → Nat :=
  let arg0 : BitVec 32 := BitVec.ofNat 32 (i 0).val
  let c10_i32 : BitVec 32 := 10#32
  let v0 : BitVec 32 := Scalar.muli arg0 c10_i32
  let arg1 : BitVec 32 := BitVec.ofNat 32 (i 1).val
  let v1 : BitVec 32 := Scalar.addi v0 arg1
  let c4_i32 : BitVec 32 := 4#32
  let v2 : BitVec 32 := Scalar.remsi v1 c4_i32
  let v230 : Index := Scalar.indexCast v2
  let c0_63 : Index := 0#32
  let c512_64 : Index := 512#32
  ![v230.toNat, 0, 512]
def k0_off9 (i : grid0.Coords) : Fin 3 → Nat :=
  let arg0 : BitVec 32 := BitVec.ofNat 32 (i 0).val
  let c10_i32 : BitVec 32 := 10#32
  let v0 : BitVec 32 := Scalar.muli arg0 c10_i32
  let arg1 : BitVec 32 := BitVec.ofNat 32 (i 1).val
  let v1 : BitVec 32 := Scalar.addi v0 arg1
  let c4_i32 : BitVec 32 := 4#32
  let v2 : BitVec 32 := Scalar.remsi v1 c4_i32
  let v272 : Index := Scalar.indexCast v2
  let c0_72 : Index := 0#32
  let c640_73 : Index := 640#32
  ![v272.toNat, 0, 640]
def k0_off10 (i : grid0.Coords) : Fin 3 → Nat :=
  let arg0 : BitVec 32 := BitVec.ofNat 32 (i 0).val
  let c10_i32 : BitVec 32 := 10#32
  let v0 : BitVec 32 := Scalar.muli arg0 c10_i32
  let arg1 : BitVec 32 := BitVec.ofNat 32 (i 1).val
  let v1 : BitVec 32 := Scalar.addi v0 arg1
  let c4_i32 : BitVec 32 := 4#32
  let v2 : BitVec 32 := Scalar.remsi v1 c4_i32
  let v314 : Index := Scalar.indexCast v2
  let c0_81 : Index := 0#32
  let c768_82 : Index := 768#32
  ![v314.toNat, 0, 768]
def k0_off11 (i : grid0.Coords) : Fin 3 → Nat :=
  let arg0 : BitVec 32 := BitVec.ofNat 32 (i 0).val
  let c10_i32 : BitVec 32 := 10#32
  let v0 : BitVec 32 := Scalar.muli arg0 c10_i32
  let arg1 : BitVec 32 := BitVec.ofNat 32 (i 1).val
  let v1 : BitVec 32 := Scalar.addi v0 arg1
  let c4_i32 : BitVec 32 := 4#32
  let v2 : BitVec 32 := Scalar.remsi v1 c4_i32
  let v356 : Index := Scalar.indexCast v2
  let c0_90 : Index := 0#32
  let c896_91 : Index := 896#32
  ![v356.toNat, 0, 896]
def k0_off12 (i : grid0.Coords) : Fin 3 → Nat :=
  let arg0 : BitVec 32 := BitVec.ofNat 32 (i 0).val
  let c10_i32 : BitVec 32 := 10#32
  let v0 : BitVec 32 := Scalar.muli arg0 c10_i32
  let arg1 : BitVec 32 := BitVec.ofNat 32 (i 1).val
  let v1 : BitVec 32 := Scalar.addi v0 arg1
  let c4_i32 : BitVec 32 := 4#32
  let v2 : BitVec 32 := Scalar.remsi v1 c4_i32
  let v398 : Index := Scalar.indexCast v2
  let c0_99 : Index := 0#32
  let c1024_100 : Index := 1024#32
  ![v398.toNat, 0, 1024]
def k0_off13 (i : grid0.Coords) : Fin 3 → Nat :=
  let arg0 : BitVec 32 := BitVec.ofNat 32 (i 0).val
  let c10_i32 : BitVec 32 := 10#32
  let v0 : BitVec 32 := Scalar.muli arg0 c10_i32
  let arg1 : BitVec 32 := BitVec.ofNat 32 (i 1).val
  let v1 : BitVec 32 := Scalar.addi v0 arg1
  let c4_i32 : BitVec 32 := 4#32
  let v2 : BitVec 32 := Scalar.remsi v1 c4_i32
  let v440 : Index := Scalar.indexCast v2
  let c0_108 : Index := 0#32
  let c1152_109 : Index := 1152#32
  ![v440.toNat, 0, 1152]
def k0_off14 (i : grid0.Coords) : Fin 3 → Nat :=
  let arg0 : BitVec 32 := BitVec.ofNat 32 (i 0).val
  let c10_i32 : BitVec 32 := 10#32
  let v0 : BitVec 32 := Scalar.muli arg0 c10_i32
  let arg1 : BitVec 32 := BitVec.ofNat 32 (i 1).val
  let v1 : BitVec 32 := Scalar.addi v0 arg1
  let c4_i32 : BitVec 32 := 4#32
  let v2 : BitVec 32 := Scalar.remsi v1 c4_i32
  let v482 : Index := Scalar.indexCast v2
  let c0_117 : Index := 0#32
  let c1280_118 : Index := 1280#32
  ![v482.toNat, 0, 1280]
def k0_off15 (i : grid0.Coords) : Fin 3 → Nat :=
  let arg0 : BitVec 32 := BitVec.ofNat 32 (i 0).val
  let c10_i32 : BitVec 32 := 10#32
  let v0 : BitVec 32 := Scalar.muli arg0 c10_i32
  let arg1 : BitVec 32 := BitVec.ofNat 32 (i 1).val
  let v1 : BitVec 32 := Scalar.addi v0 arg1
  let c4_i32 : BitVec 32 := 4#32
  let v2 : BitVec 32 := Scalar.remsi v1 c4_i32
  let v524 : Index := Scalar.indexCast v2
  let c0_126 : Index := 0#32
  let c1408_127 : Index := 1408#32
  ![v524.toNat, 0, 1408]
def k0_off16 (i : grid0.Coords) : Fin 3 → Nat :=
  let arg0 : BitVec 32 := BitVec.ofNat 32 (i 0).val
  let c10_i32 : BitVec 32 := 10#32
  let v0 : BitVec 32 := Scalar.muli arg0 c10_i32
  let arg1 : BitVec 32 := BitVec.ofNat 32 (i 1).val
  let v1 : BitVec 32 := Scalar.addi v0 arg1
  let c4_i32 : BitVec 32 := 4#32
  let v2 : BitVec 32 := Scalar.remsi v1 c4_i32
  let v566 : Index := Scalar.indexCast v2
  let c0_135 : Index := 0#32
  let c1536_136 : Index := 1536#32
  ![v566.toNat, 0, 1536]
def k0_off17 (i : grid0.Coords) : Fin 3 → Nat :=
  let arg0 : BitVec 32 := BitVec.ofNat 32 (i 0).val
  let c10_i32 : BitVec 32 := 10#32
  let v0 : BitVec 32 := Scalar.muli arg0 c10_i32
  let arg1 : BitVec 32 := BitVec.ofNat 32 (i 1).val
  let v1 : BitVec 32 := Scalar.addi v0 arg1
  let c4_i32 : BitVec 32 := 4#32
  let v2 : BitVec 32 := Scalar.remsi v1 c4_i32
  let v608 : Index := Scalar.indexCast v2
  let c0_144 : Index := 0#32
  let c1664_145 : Index := 1664#32
  ![v608.toNat, 0, 1664]
def k0_off18 (i : grid0.Coords) : Fin 3 → Nat :=
  let arg0 : BitVec 32 := BitVec.ofNat 32 (i 0).val
  let c10_i32 : BitVec 32 := 10#32
  let v0 : BitVec 32 := Scalar.muli arg0 c10_i32
  let arg1 : BitVec 32 := BitVec.ofNat 32 (i 1).val
  let v1 : BitVec 32 := Scalar.addi v0 arg1
  let c4_i32 : BitVec 32 := 4#32
  let v2 : BitVec 32 := Scalar.remsi v1 c4_i32
  let v650 : Index := Scalar.indexCast v2
  let c0_153 : Index := 0#32
  let c1792_154 : Index := 1792#32
  ![v650.toNat, 0, 1792]
def k0_off19 (i : grid0.Coords) : Fin 3 → Nat :=
  let arg0 : BitVec 32 := BitVec.ofNat 32 (i 0).val
  let c10_i32 : BitVec 32 := 10#32
  let v0 : BitVec 32 := Scalar.muli arg0 c10_i32
  let arg1 : BitVec 32 := BitVec.ofNat 32 (i 1).val
  let v1 : BitVec 32 := Scalar.addi v0 arg1
  let c4_i32 : BitVec 32 := 4#32
  let v2 : BitVec 32 := Scalar.remsi v1 c4_i32
  let v692 : Index := Scalar.indexCast v2
  let c0_162 : Index := 0#32
  let c1920_163 : Index := 1920#32
  ![v692.toNat, 0, 1920]
def k0_off20 (i : grid0.Coords) : Fin 3 → Nat :=
  let arg0 : BitVec 32 := BitVec.ofNat 32 (i 0).val
  let c10_i32 : BitVec 32 := 10#32
  let v0 : BitVec 32 := Scalar.muli arg0 c10_i32
  let arg1 : BitVec 32 := BitVec.ofNat 32 (i 1).val
  let v1 : BitVec 32 := Scalar.addi v0 arg1
  let c4_i32 : BitVec 32 := 4#32
  let v2 : BitVec 32 := Scalar.remsi v1 c4_i32
  let v734 : Index := Scalar.indexCast v2
  let c0_171 : Index := 0#32
  let c2048_172 : Index := 2048#32
  ![v734.toNat, 0, 2048]
def k0_off21 (i : grid0.Coords) : Fin 3 → Nat :=
  let arg0 : BitVec 32 := BitVec.ofNat 32 (i 0).val
  let c10_i32 : BitVec 32 := 10#32
  let v0 : BitVec 32 := Scalar.muli arg0 c10_i32
  let arg1 : BitVec 32 := BitVec.ofNat 32 (i 1).val
  let v1 : BitVec 32 := Scalar.addi v0 arg1
  let c4_i32 : BitVec 32 := 4#32
  let v2 : BitVec 32 := Scalar.remsi v1 c4_i32
  let v776 : Index := Scalar.indexCast v2
  let c0_180 : Index := 0#32
  let c2176_181 : Index := 2176#32
  ![v776.toNat, 0, 2176]
def k0_off22 (i : grid0.Coords) : Fin 3 → Nat :=
  let arg0 : BitVec 32 := BitVec.ofNat 32 (i 0).val
  let c10_i32 : BitVec 32 := 10#32
  let v0 : BitVec 32 := Scalar.muli arg0 c10_i32
  let arg1 : BitVec 32 := BitVec.ofNat 32 (i 1).val
  let v1 : BitVec 32 := Scalar.addi v0 arg1
  let c4_i32 : BitVec 32 := 4#32
  let v2 : BitVec 32 := Scalar.remsi v1 c4_i32
  let v818 : Index := Scalar.indexCast v2
  let c0_189 : Index := 0#32
  let c2304_190 : Index := 2304#32
  ![v818.toNat, 0, 2304]
def k0_off23 (i : grid0.Coords) : Fin 3 → Nat :=
  let arg0 : BitVec 32 := BitVec.ofNat 32 (i 0).val
  let c10_i32 : BitVec 32 := 10#32
  let v0 : BitVec 32 := Scalar.muli arg0 c10_i32
  let arg1 : BitVec 32 := BitVec.ofNat 32 (i 1).val
  let v1 : BitVec 32 := Scalar.addi v0 arg1
  let c4_i32 : BitVec 32 := 4#32
  let v2 : BitVec 32 := Scalar.remsi v1 c4_i32
  let v860 : Index := Scalar.indexCast v2
  let c0_198 : Index := 0#32
  let c2432_199 : Index := 2432#32
  ![v860.toNat, 0, 2432]
def k0_off24 (i : grid0.Coords) : Fin 3 → Nat :=
  let arg0 : BitVec 32 := BitVec.ofNat 32 (i 0).val
  let c10_i32 : BitVec 32 := 10#32
  let v0 : BitVec 32 := Scalar.muli arg0 c10_i32
  let arg1 : BitVec 32 := BitVec.ofNat 32 (i 1).val
  let v1 : BitVec 32 := Scalar.addi v0 arg1
  let c4_i32 : BitVec 32 := 4#32
  let v2 : BitVec 32 := Scalar.remsi v1 c4_i32
  let v902 : Index := Scalar.indexCast v2
  let c0_207 : Index := 0#32
  let c2560_208 : Index := 2560#32
  ![v902.toNat, 0, 2560]
def k0_off25 (i : grid0.Coords) : Fin 3 → Nat :=
  let arg0 : BitVec 32 := BitVec.ofNat 32 (i 0).val
  let c10_i32 : BitVec 32 := 10#32
  let v0 : BitVec 32 := Scalar.muli arg0 c10_i32
  let arg1 : BitVec 32 := BitVec.ofNat 32 (i 1).val
  let v1 : BitVec 32 := Scalar.addi v0 arg1
  let c4_i32 : BitVec 32 := 4#32
  let v2 : BitVec 32 := Scalar.remsi v1 c4_i32
  let v944 : Index := Scalar.indexCast v2
  let c0_216 : Index := 0#32
  let c2688_217 : Index := 2688#32
  ![v944.toNat, 0, 2688]
def k0_off26 (i : grid0.Coords) : Fin 3 → Nat :=
  let arg0 : BitVec 32 := BitVec.ofNat 32 (i 0).val
  let c10_i32 : BitVec 32 := 10#32
  let v0 : BitVec 32 := Scalar.muli arg0 c10_i32
  let arg1 : BitVec 32 := BitVec.ofNat 32 (i 1).val
  let v1 : BitVec 32 := Scalar.addi v0 arg1
  let c4_i32 : BitVec 32 := 4#32
  let v2 : BitVec 32 := Scalar.remsi v1 c4_i32
  let v986 : Index := Scalar.indexCast v2
  let c0_225 : Index := 0#32
  let c2816_226 : Index := 2816#32
  ![v986.toNat, 0, 2816]
def k0_off27 (i : grid0.Coords) : Fin 3 → Nat :=
  let arg0 : BitVec 32 := BitVec.ofNat 32 (i 0).val
  let c10_i32 : BitVec 32 := 10#32
  let v0 : BitVec 32 := Scalar.muli arg0 c10_i32
  let arg1 : BitVec 32 := BitVec.ofNat 32 (i 1).val
  let v1 : BitVec 32 := Scalar.addi v0 arg1
  let c4_i32 : BitVec 32 := 4#32
  let v2 : BitVec 32 := Scalar.remsi v1 c4_i32
  let v1028 : Index := Scalar.indexCast v2
  let c0_234 : Index := 0#32
  let c2944_235 : Index := 2944#32
  ![v1028.toNat, 0, 2944]
def k0_off28 (i : grid0.Coords) : Fin 3 → Nat :=
  let arg0 : BitVec 32 := BitVec.ofNat 32 (i 0).val
  let c10_i32 : BitVec 32 := 10#32
  let v0 : BitVec 32 := Scalar.muli arg0 c10_i32
  let arg1 : BitVec 32 := BitVec.ofNat 32 (i 1).val
  let v1 : BitVec 32 := Scalar.addi v0 arg1
  let c4_i32 : BitVec 32 := 4#32
  let v2 : BitVec 32 := Scalar.remsi v1 c4_i32
  let v1070 : Index := Scalar.indexCast v2
  let c0_243 : Index := 0#32
  let c3072_244 : Index := 3072#32
  ![v1070.toNat, 0, 3072]
def k0_off29 (i : grid0.Coords) : Fin 3 → Nat :=
  let arg0 : BitVec 32 := BitVec.ofNat 32 (i 0).val
  let c10_i32 : BitVec 32 := 10#32
  let v0 : BitVec 32 := Scalar.muli arg0 c10_i32
  let arg1 : BitVec 32 := BitVec.ofNat 32 (i 1).val
  let v1 : BitVec 32 := Scalar.addi v0 arg1
  let c4_i32 : BitVec 32 := 4#32
  let v2 : BitVec 32 := Scalar.remsi v1 c4_i32
  let v1112 : Index := Scalar.indexCast v2
  let c0_252 : Index := 0#32
  let c3200_253 : Index := 3200#32
  ![v1112.toNat, 0, 3200]
def k0_off30 (i : grid0.Coords) : Fin 3 → Nat :=
  let arg0 : BitVec 32 := BitVec.ofNat 32 (i 0).val
  let c10_i32 : BitVec 32 := 10#32
  let v0 : BitVec 32 := Scalar.muli arg0 c10_i32
  let arg1 : BitVec 32 := BitVec.ofNat 32 (i 1).val
  let v1 : BitVec 32 := Scalar.addi v0 arg1
  let c4_i32 : BitVec 32 := 4#32
  let v2 : BitVec 32 := Scalar.remsi v1 c4_i32
  let v1154 : Index := Scalar.indexCast v2
  let c0_261 : Index := 0#32
  let c3328_262 : Index := 3328#32
  ![v1154.toNat, 0, 3328]
def k0_off31 (i : grid0.Coords) : Fin 3 → Nat :=
  let arg0 : BitVec 32 := BitVec.ofNat 32 (i 0).val
  let c10_i32 : BitVec 32 := 10#32
  let v0 : BitVec 32 := Scalar.muli arg0 c10_i32
  let arg1 : BitVec 32 := BitVec.ofNat 32 (i 1).val
  let v1 : BitVec 32 := Scalar.addi v0 arg1
  let c4_i32 : BitVec 32 := 4#32
  let v2 : BitVec 32 := Scalar.remsi v1 c4_i32
  let v1196 : Index := Scalar.indexCast v2
  let c0_270 : Index := 0#32
  let c3456_271 : Index := 3456#32
  ![v1196.toNat, 0, 3456]
def k0_off32 (i : grid0.Coords) : Fin 3 → Nat :=
  let arg0 : BitVec 32 := BitVec.ofNat 32 (i 0).val
  let c10_i32 : BitVec 32 := 10#32
  let v0 : BitVec 32 := Scalar.muli arg0 c10_i32
  let arg1 : BitVec 32 := BitVec.ofNat 32 (i 1).val
  let v1 : BitVec 32 := Scalar.addi v0 arg1
  let c4_i32 : BitVec 32 := 4#32
  let v2 : BitVec 32 := Scalar.remsi v1 c4_i32
  let v1238 : Index := Scalar.indexCast v2
  let c0_279 : Index := 0#32
  let c3584_280 : Index := 3584#32
  ![v1238.toNat, 0, 3584]
def k0_off33 (i : grid0.Coords) : Fin 3 → Nat :=
  let arg0 : BitVec 32 := BitVec.ofNat 32 (i 0).val
  let c10_i32 : BitVec 32 := 10#32
  let v0 : BitVec 32 := Scalar.muli arg0 c10_i32
  let arg1 : BitVec 32 := BitVec.ofNat 32 (i 1).val
  let v1 : BitVec 32 := Scalar.addi v0 arg1
  let c4_i32 : BitVec 32 := 4#32
  let v2 : BitVec 32 := Scalar.remsi v1 c4_i32
  let v1280 : Index := Scalar.indexCast v2
  let c0_288 : Index := 0#32
  let c3712_289 : Index := 3712#32
  ![v1280.toNat, 0, 3712]
def k0_off34 (i : grid0.Coords) : Fin 3 → Nat :=
  let arg0 : BitVec 32 := BitVec.ofNat 32 (i 0).val
  let c10_i32 : BitVec 32 := 10#32
  let v0 : BitVec 32 := Scalar.muli arg0 c10_i32
  let arg1 : BitVec 32 := BitVec.ofNat 32 (i 1).val
  let v1 : BitVec 32 := Scalar.addi v0 arg1
  let c4_i32 : BitVec 32 := 4#32
  let v2 : BitVec 32 := Scalar.remsi v1 c4_i32
  let v1322 : Index := Scalar.indexCast v2
  let c0_297 : Index := 0#32
  let c3840_298 : Index := 3840#32
  ![v1322.toNat, 0, 3840]
def k0_off35 (i : grid0.Coords) : Fin 3 → Nat :=
  let arg0 : BitVec 32 := BitVec.ofNat 32 (i 0).val
  let c10_i32 : BitVec 32 := 10#32
  let v0 : BitVec 32 := Scalar.muli arg0 c10_i32
  let arg1 : BitVec 32 := BitVec.ofNat 32 (i 1).val
  let v1 : BitVec 32 := Scalar.addi v0 arg1
  let c4_i32 : BitVec 32 := 4#32
  let v2 : BitVec 32 := Scalar.remsi v1 c4_i32
  let v1364 : Index := Scalar.indexCast v2
  let c0_306 : Index := 0#32
  let c3968_307 : Index := 3968#32
  ![v1364.toNat, 0, 3968]
def k0_off36 (i : grid0.Coords) : Fin 1 → Nat :=
  let arg0 : BitVec 32 := BitVec.ofNat 32 (i 0).val
  let c10_i32 : BitVec 32 := 10#32
  let v0 : BitVec 32 := Scalar.muli arg0 c10_i32
  let arg1 : BitVec 32 := BitVec.ofNat 32 (i 1).val
  let v1 : BitVec 32 := Scalar.addi v0 arg1
  let c4_i32 : BitVec 32 := 4#32
  let v2 : BitVec 32 := Scalar.remsi v1 c4_i32
  ![v2.toNat]
def k0_off37 (i : grid0.Coords) : Fin 4 → Nat :=
  let arg0 : BitVec 32 := BitVec.ofNat 32 (i 0).val
  let arg1 : BitVec 32 := BitVec.ofNat 32 (i 1).val
  let c0_i32_308 : BitVec 32 := 0#32
  let c0_i32_309 : BitVec 32 := 0#32
  ![arg0.toNat, arg1.toNat, 0, 0]
def k0_off38 (i : grid0.Coords) : Fin 3 → Nat :=
  let arg0 : BitVec 32 := BitVec.ofNat 32 (i 0).val
  let c10_i32 : BitVec 32 := 10#32
  let v0 : BitVec 32 := Scalar.muli arg0 c10_i32
  let arg1 : BitVec 32 := BitVec.ofNat 32 (i 1).val
  let v1 : BitVec 32 := Scalar.addi v0 arg1
  let c4_i32 : BitVec 32 := 4#32
  let v2 : BitVec 32 := Scalar.remsi v1 c4_i32
  let c0_i32_310 : BitVec 32 := 0#32
  let c0_i32_311 : BitVec 32 := 0#32
  ![v2.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S128x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]
-- ==== KernelIdeal.lean ====
variable {F : FTy → Type} [FloatOps F] [Named F]
def κ : String → Option EReal := fun
  | "inv_ln2" => some (((Real.log 2)⁻¹ : ℝ) : EReal)
  | _ => none
-- ==== ReferenceIdeal.lean ====
abbrev S16x128x4000 : Shape := ⟨3, ![16, 128, 4000]⟩
abbrev S10x128 : Shape := ⟨2, ![10, 128]⟩
abbrev S128 : Shape := ⟨1, ![128]⟩
abbrev S128x1 : Shape := ⟨2, ![128, 1]⟩
abbrev S10x1x128 : Shape := ⟨3, ![10, 1, 128]⟩
abbrev S16x128x1 : Shape := ⟨3, ![16, 128, 1]⟩
abbrev S16x128 : Shape := ⟨2, ![16, 128]⟩
abbrev S10x16x128 : Shape := ⟨3, ![10, 16, 128]⟩
abbrev S4000x16x128 : Shape := ⟨3, ![4000, 16, 128]⟩
abbrev S3999x16x128 : Shape := ⟨3, ![3999, 16, 128]⟩
abbrev S_ : Shape := ⟨0, ![]⟩
abbrev S3999x10x16x128 : Shape := ⟨4, ![3999, 10, 16, 128]⟩
abbrev S1x16x128 : Shape := ⟨3, ![1, 16, 128]⟩
abbrev S1x10x16x128 : Shape := ⟨4, ![1, 10, 16, 128]⟩
abbrev S4000x10x16x128 : Shape := ⟨4, ![4000, 10, 16, 128]⟩
abbrev S10x16x128x4000 : Shape := ⟨4, ![10, 16, 128, 4000]⟩
abbrev S1x1x128x1 : Shape := ⟨4, ![1, 1, 128, 1]⟩
abbrev S1x16x128x4000 : Shape := ⟨4, ![1, 16, 128, 4000]⟩
abbrev S16x10x128x4000 : Shape := ⟨4, ![16, 10, 128, 4000]⟩

abbrev nBuf : Space → Nat
  | .hbm => 79
  | .vmem => 0
  | .smem => 0
  | _ => 0

abbrev bufTy : (tb : Table) → Fin (tcTables nBuf tb) → BufTy
  | .hbm, ⟨0, _⟩ => ⟨S16x128x4000, .f32⟩
  | .hbm, ⟨1, _⟩ => ⟨S10x128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S10x128, .f32⟩
  | .hbm, ⟨6, _⟩ => ⟨S128, .f32⟩
  | .hbm, ⟨7, _⟩ => ⟨S128x1, .f32⟩
  | .hbm, ⟨8, _⟩ => ⟨S128, .f32⟩
  | .hbm, ⟨9, _⟩ => ⟨S128x1, .f32⟩
  | .hbm, ⟨10, _⟩ => ⟨S128, .f32⟩
  | .hbm, ⟨11, _⟩ => ⟨S128x1, .f32⟩
  | .hbm, ⟨12, _⟩ => ⟨S10x1x128, .f32⟩
  | .hbm, ⟨13, _⟩ => ⟨S16x128x1, .f32⟩
  | .hbm, ⟨14, _⟩ => ⟨S16x128, .f32⟩
  | .hbm, ⟨15, _⟩ => ⟨S10x16x128, .f32⟩
  | .hbm, ⟨16, _⟩ => ⟨S4000x16x128, .f32⟩
  | .hbm, ⟨17, _⟩ => ⟨S3999x16x128, .f32⟩
  | .hbm, ⟨18, _⟩ => ⟨S_, .f32⟩
  | .hbm, ⟨19, _⟩ => ⟨S3999x10x16x128, .f32⟩
  | .hbm, ⟨20, _⟩ => ⟨S_, .i32⟩
  | .hbm, ⟨21, _⟩ => ⟨S3999x16x128, .f32⟩
  | .hbm, ⟨22, _⟩ => ⟨S10x1x128, .f32⟩
  | .hbm, ⟨23, _⟩ => ⟨S_, .i32⟩
  | .hbm, ⟨24, _⟩ => ⟨S10x16x128, .f32⟩
  | .hbm, ⟨25, _⟩ => ⟨S3999x10x16x128, .f32⟩
  | .hbm, ⟨26, _⟩ => ⟨S_, .i32⟩
  | .hbm, ⟨27, _⟩ => ⟨S_, .i1⟩
  | .hbm, ⟨28, _⟩ => ⟨S_, .i32⟩
  | .hbm, ⟨29, _⟩ => ⟨S_, .i32⟩
  | .hbm, ⟨30, _⟩ => ⟨S1x16x128, .f32⟩
  | .hbm, ⟨31, _⟩ => ⟨S16x128, .f32⟩
  | .hbm, ⟨32, _⟩ => ⟨S_, .f32⟩
  | .hbm, ⟨33, _⟩ => ⟨S10x1x128, .f32⟩
  | .hbm, ⟨34, _⟩ => ⟨S10x1x128, .f32⟩
  | .hbm, ⟨35, _⟩ => ⟨S10x16x128, .f32⟩
  | .hbm, ⟨36, _⟩ => ⟨S10x16x128, .f32⟩
  | .hbm, ⟨37, _⟩ => ⟨S1x16x128, .f32⟩
  | .hbm, ⟨38, _⟩ => ⟨S10x16x128, .f32⟩
  | .hbm, ⟨39, _⟩ => ⟨S10x16x128, .f32⟩
  | .hbm, ⟨40, _⟩ => ⟨S10x16x128, .f32⟩
  | .hbm, ⟨41, _⟩ => ⟨S10x16x128, .f32⟩
  | .hbm, ⟨42, _⟩ => ⟨S1x10x16x128, .f32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S3999x10x16x128, .f32⟩
  | .hbm, ⟨47, _⟩ => ⟨S_, .i32⟩
  | .hbm, ⟨48, _⟩ => ⟨S_, .i32⟩
  | .hbm, ⟨49, _⟩ => ⟨S1x10x16x128, .f32⟩
  | .hbm, ⟨50, _⟩ => ⟨S4000x10x16x128, .f32⟩
  | .hbm, ⟨51, _⟩ => ⟨S10x16x128x4000, .f32⟩
  | .hbm, ⟨52, _⟩ => ⟨S128x1, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S10x16x128x4000, .f32⟩
  | .hbm, ⟨57, _⟩ => ⟨S10x16x128x4000, .f32⟩
  | .hbm, ⟨58, _⟩ => ⟨S10x16x128x4000, .f32⟩
  | .hbm, ⟨59, _⟩ => ⟨S10x16x128x4000, .f32⟩
  | .hbm, ⟨60, _⟩ => ⟨S10x16x128x4000, .f32⟩
  | .hbm, ⟨61, _⟩ => ⟨S1x1x128x1, .f32⟩
  | .hbm, ⟨62, _⟩ => ⟨S10x16x128x4000, .f32⟩
  | .hbm, ⟨63, _⟩ => ⟨S10x16x128x4000, .f32⟩
  | .hbm, ⟨64, _⟩ => ⟨S10x16x128x4000, .f32⟩
  | .hbm, ⟨65, _⟩ => ⟨S1x16x128x4000, .f32⟩
  | .hbm, ⟨66, _⟩ => ⟨S10x16x128x4000, .f32⟩
  | .hbm, ⟨67, _⟩ => ⟨S10x16x128x4000, .f32⟩
  | .hbm, ⟨68, _⟩ => ⟨S1x1x128x1, .f32⟩
  | .hbm, ⟨69, _⟩ => ⟨S10x16x128x4000, .f32⟩
  | .hbm, ⟨70, _⟩ => ⟨S10x16x128x4000, .f32⟩
  | .hbm, ⟨71, _⟩ => ⟨S1x1x128x1, .f32⟩
  | .hbm, ⟨72, _⟩ => ⟨S10x16x128x4000, .f32⟩
  | .hbm, ⟨73, _⟩ => ⟨S10x16x128x4000, .f32⟩
  | .hbm, ⟨74, _⟩ => ⟨S128x1, .f32⟩
  | .hbm, ⟨75, _⟩ => ⟨S1x1x128x1, .f32⟩
  | .hbm, ⟨76, _⟩ => ⟨S10x16x128x4000, .f32⟩
  | .hbm, ⟨77, _⟩ => ⟨S10x16x128x4000, .f32⟩
  | .hbm, ⟨78, _⟩ => ⟨S16x10x128x4000, .f32⟩
  | _, _ => ⟨S16x128x4000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_c : Ref sig .tc := ⟨.hbm, 20, rfl⟩
abbrev main_v14_0 : Ref sig .tc := ⟨.hbm, 21, rfl⟩
abbrev main_v14_1 : Ref sig .tc := ⟨.hbm, 22, rfl⟩
abbrev main_v14_2 : Ref sig .tc := ⟨.hbm, 23, rfl⟩
abbrev main_v14_3 : Ref sig .tc := ⟨.hbm, 24, rfl⟩
abbrev main_v14_4 : Ref sig .tc := ⟨.hbm, 25, rfl⟩
abbrev main_while0c_c_6 : Ref sig .tc := ⟨.hbm, 26, rfl⟩
abbrev main_while0c_v43 : Ref sig .tc := ⟨.hbm, 27, rfl⟩
abbrev main_while0b_call0_c : Ref sig .tc := ⟨.hbm, 28, rfl⟩
abbrev main_while0b_call0_c_0 : Ref sig .tc := ⟨.hbm, 29, rfl⟩
abbrev main_while0b_call0_v0 : Ref sig .tc := ⟨.hbm, 30, rfl⟩
abbrev main_while0b_v43 : Ref sig .tc := ⟨.hbm, 31, rfl⟩
abbrev main_while0b_cst_6 : Ref sig .tc := ⟨.hbm, 32, rfl⟩
abbrev main_while0b_v44 : Ref sig .tc := ⟨.hbm, 33, rfl⟩
abbrev main_while0b_v45 : Ref sig .tc := ⟨.hbm, 34, rfl⟩
abbrev main_while0b_v46 : Ref sig .tc := ⟨.hbm, 35, rfl⟩
abbrev main_while0b_v47 : Ref sig .tc := ⟨.hbm, 36, rfl⟩
abbrev main_while0b_v48 : Ref sig .tc := ⟨.hbm, 37, rfl⟩
abbrev main_while0b_v49 : Ref sig .tc := ⟨.hbm, 38, rfl⟩
abbrev main_while0b_v50 : Ref sig .tc := ⟨.hbm, 39, rfl⟩
abbrev main_while0b_v51 : Ref sig .tc := ⟨.hbm, 40, rfl⟩
abbrev main_while0b_v52 : Ref sig .tc := ⟨.hbm, 41, rfl⟩
abbrev main_while0b_call1_v0 : Ref sig .tc := ⟨.hbm, 42, rfl⟩
abbrev main_while0b_call1_c : Ref sig .tc := ⟨.hbm, 43, rfl⟩
abbrev main_while0b_call1_c_0 : Ref sig .tc := ⟨.hbm, 44, rfl⟩
abbrev main_while0b_call1_c_1 : Ref sig .tc := ⟨.hbm, 45, rfl⟩
abbrev main_while0b_v53 : Ref sig .tc := ⟨.hbm, 46, rfl⟩
abbrev main_while0b_c_7 : Ref sig .tc := ⟨.hbm, 47, rfl⟩
abbrev main_while0b_v54 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_cst_0 : Ref sig .tc := ⟨.hbm, 53, rfl⟩
abbrev main_v19 : Ref sig .tc := ⟨.hbm, 54, rfl⟩
abbrev main_cst_1 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩

abbrev nD : Nat := 1
abbrev τ : Topo := Topo.v7x

variable {F : FTy → Type} [FloatOps F]

abbrev main_while0_count : Scf.Loop 32 := ⟨0#32, 3999#32, 1#32⟩
-- ==== Proof.KernelIdealRing.lean ====
/- The output ring of the kernel: four VMEM tiles on four DMA cells, one copy to HBM in flight on each. This module names
   the tiles, the cells and the 160 pieces of the result, splits the launch's buffers into them and joins them back, opens
   the ring at a step and closes it at the next, and puts the body's own spelling of its slices in the ring's terms. -/
module

public import proofs.«01_k».proof.Proof.Gen.KernelIdeal.Frame
public import proofs.«01_k».proof.Proof.Gen.KernelIdeal.Skeleton
public import Idealize.ShloMosaic.Lib.Ring.WriteBehind
public import Idealize.ShloMosaic.Lib.Pipeline.FrameValue

@[expose] public section

set_option maxRecDepth 16384

noncomputable section

namespace Cert.KernelIdeal.Behind

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

/-! ## The body's two branch conditions, over the 160 points -/

/-- The body waits for an earlier copy; -/
abbrev waits (i : grid0.Coords) : Prop := k0_cond1 i = 1#1
theorem waits_iff : ∀ t : Fin cfg0.N, waits (grid0.coords t) ↔ 4 ≤ t.val :=
  (by decide +kernel : ∀ t : Fin grid0.N, waits (grid0.coords t) ↔ 4 ≤ t.val)
/-- the body drains the ring. -/
abbrev drains (i : grid0.Coords) : Prop :=
  (Scalar.cmpi .ne (Scalar.extui (Scalar.cmpi .eq (Scalar.addi (Scalar.muli (BitVec.ofNat 32 (i 0).val) 10#32) (BitVec.ofNat 32 (i 1).val)) 159#32)) 0#32) = 1#1
theorem drains_iff : ∀ t : Fin cfg0.N, drains (grid0.coords t) ↔ t.val = 159 :=
  (by decide +kernel : ∀ t : Fin grid0.N, drains (grid0.coords t) ↔ t.val = 159)

instance : NeZero grid0.N := ⟨by rw [N_0]; decide⟩

/-! ## Tiles, pieces and cells -/

/-- The tile scratch and the result, whole. -/
abbrev tiles : Memref sig .tc .vmem S4x128x4000 .f32 := Memref.whole cc0_scratch0
abbrev result : Memref sig .tc .hbm S16x10x128x4000 .f32 := Memref.whole main_v65

theorem tile_inb (g : Fin 4) : ∀ a, (![g.val, 0, 0] : Fin 3 → Nat) a + S1x128x4000.size a ≤ S4x128x4000.size a := by
  have := g.isLt; intro a; fin_cases a <;> simp <;> omega
theorem piece_inb (u : Fin 160) : ∀ a, (![u.val / 10, u.val % 10, 0, 0] : Fin 4 → Nat) a + S1x1x128x4000.size a ≤ S16x10x128x4000.size a := by
  have := u.isLt; intro a; fin_cases a <;> simp <;> omega
theorem cell_inb (g : Fin 4) : ∀ a, (![g.val] : Fin 1 → Nat) a + S1.size a ≤ S4.size a := by
  have := g.isLt; intro a; fin_cases a <;> simp <;> omega

/-- Tile `g` of the scratch, as the copies spell their source; -/
def tile (g : Fin 4) : Memref sig .tc .vmem S128x4000 .f32 :=
  (tiles.slice (Rect.unit (s := S4x128x4000) ![g.val, 0, 0] S1x128x4000.size (tile_inb g)) (fun _ => rfl)).squeeze S128x4000 squeezes_S1x128x4000_S128x4000
/-- piece `u` of the result, row (u / 10, u % 10), as the copies spell their destination; -/
def piece (u : Fin 160) : Memref sig .tc .hbm S128x4000 .f32 :=
  (result.slice (Rect.unit (s := S16x10x128x4000) ![u.val / 10, u.val % 10, 0, 0] S1x1x128x4000.size (piece_inb u)) (fun _ => rfl)).squeeze S128x4000 squeezes_S1x1x128x4000_S128x4000
/-- cell `g`, which counts tile `g`'s copy. -/
def cell (g : Fin 4) : DmaSems sig S_ := (cc0_scratch1.slice (Rect.unit (s := S4) ![g.val] S1.size (cell_inb g))).squeeze S_ squeezes_S1_S_
abbrev cellLoc (g : Fin 4) : SemLoc sig := SemLoc.dma (cell g).sem
theorem cellLoc_0 : cellLoc 0 = SemLoc.dma 6 := by decide
theorem cellLoc_1 : cellLoc 1 = SemLoc.dma 7 := by decide
theorem cellLoc_2 : cellLoc 2 = SemLoc.dma 8 := by decide
theorem cellLoc_3 : cellLoc 3 = SemLoc.dma 9 := by decide

/-- The contents of a memref's buffer on core `c`. -/
abbrev BufOf (c : Dev nD) {sp : Space} {S : Shape} {e : EltTy} (M : Memref sig .tc sp S e) : Type := Buf (Elt F) (M.view.loc (c : Thread nD τ))

/-- The whole result array of core `c`. -/
abbrev Res (F : FTy → Type) (c : Dev nD) : Type := Buf (Elt F) ((c : Thread nD τ).loc main_v65)

section Families
variable (c : Dev nD)
/-- Tile `g` held at `e`; cell `g` at zero; piece `u` held at `f`. -/
abbrev tileAt (g : Fin 4) (e : BufOf (F := F) c (tile g)) : sProp 𝕄 := (tile g).view.loc (c : Thread nD τ) ↦[(tile g).view.set]{fullShare} e
abbrev cellZero (g : Fin 4) : sProp 𝕄 := semVal ((c : Thread nD τ), cellLoc g) 0
abbrev pieceAt (u : Fin 160) (f : BufOf (F := F) c (piece u)) : sProp 𝕄 := (piece u).view.loc (c : Thread nD τ) ↦[(piece u).view.set]{fullShare} f
/-- Contents of piece `u` hold what the array `G` holds there. -/
abbrev Holds (G : Res F c) (u : Fin 160) (f : BufOf (F := F) c (piece u)) : Prop := (piece u).view.read (Elt F) f = (piece u).view.read (Elt F) G
/-- The copy of tile `g` to piece `u`, in flight on cell `g`: it delivers the piece holding its part of `G`, and the tile. -/
abbrev flight (G : Res F c) (g : Fin 4) (u : Fin 160) : sProp 𝕄 :=
  iprop(∃ f e, ⌜Holds c G u f⌝ ∗ Transfers.Flight countersEmb (c : Thread nD τ) (cellLoc g) default ((piece u).view.amount (cellLoc g)) iprop(pieceAt c u f ∗ tileAt c g e))
/-- A group free, a piece not written yet, a piece written. -/
abbrev idle (g : Fin 4) : sProp 𝕄 := iprop(cellZero c g ∗ ∃ e, tileAt (F := F) c g e)
abbrev blank (u : Fin 160) : sProp 𝕄 := iprop(∃ f, pieceAt (F := F) c u f)
abbrev written (G : Res F c) (u : Fin 160) : sProp 𝕄 := iprop(∃ f, ⌜Holds c G u f⌝ ∗ pieceAt (F := F) c u f)
/-- The ring before step `k`. -/
def ringAt (G : Res F c) (k : ℕ) : sProp 𝕄 := Ring.AtBΦ 4 (idle c) (flight c G) (blank c) (written c G) k
omit [FloatOps F] [Named F] in
theorem cellZero_0 : cellZero (F := F) c 0 = semVal ((c : Thread nD τ), SemLoc.dma 6) 0 := congrArg (fun x => (semVal ((c : Thread nD τ), x) 0 : sProp 𝕄)) cellLoc_0
omit [FloatOps F] [Named F] in
theorem cellZero_1 : cellZero (F := F) c 1 = semVal ((c : Thread nD τ), SemLoc.dma 7) 0 := congrArg (fun x => (semVal ((c : Thread nD τ), x) 0 : sProp 𝕄)) cellLoc_1
omit [FloatOps F] [Named F] in
theorem cellZero_2 : cellZero (F := F) c 2 = semVal ((c : Thread nD τ), SemLoc.dma 8) 0 := congrArg (fun x => (semVal ((c : Thread nD τ), x) 0 : sProp 𝕄)) cellLoc_2
omit [FloatOps F] [Named F] in
theorem cellZero_3 : cellZero (F := F) c 3 = semVal ((c : Thread nD τ), SemLoc.dma 9) 0 := congrArg (fun x => (semVal ((c : Thread nD τ), x) 0 : sProp 𝕄)) cellLoc_3
end Families

/-! ## The tiles are disjoint; the pieces are disjoint and cover the result -/

abbrev tileOff (g : Fin 4) : Fin 3 → Nat := ![g.val, 0, 0]
abbrev tileSet (g : Fin 4) : Finset S4x128x4000.Idx := (Rect.unit (s := S4x128x4000) (tileOff g) S1x128x4000.size (tile_inb g)).set
theorem tileSet_eq (g : Fin 4) : (tile g).view.set = tileSet g := by
  simp only [tile, Memref.view_squeeze, View.set_reshape]; exact View.set_slice_whole _ _
theorem tileSet_disjoint (g g' : Fin 4) (h : g ≠ g') : Disjoint (tileSet g) (tileSet g') :=
  Ring.boxes_disjoint (s := S4x128x4000) S1x128x4000.size tileOff tile_inb (fun g => ![g.val, 0, 0])
    (fun g a => by fin_cases a <;> simp [tileOff]) (fun v => Fin.ofNat 4 (v 0)) (by decide +kernel) g g' h

abbrev pieceOff (u : Fin 160) : Fin 4 → Nat := ![u.val / 10, u.val % 10, 0, 0]
abbrev pieceSet (u : Fin 160) : Finset S16x10x128x4000.Idx := (Rect.unit (s := S16x10x128x4000) (pieceOff u) S1x1x128x4000.size (piece_inb u)).set
theorem pieceSet_eq (u : Fin 160) : (piece u).view.set = pieceSet u := by
  simp only [piece, Memref.view_squeeze, View.set_reshape]; exact View.set_slice_whole _ _
theorem pieceSet_disjoint (u u' : Fin 160) (h : u ≠ u') : Disjoint (pieceSet u) (pieceSet u') :=
  Ring.boxes_disjoint (s := S16x10x128x4000) S1x1x128x4000.size pieceOff piece_inb (fun u => ![u.val / 10, u.val % 10, 0, 0])
    (fun u a => by fin_cases a <;> simp [pieceOff]) (fun v => Fin.ofNat 160 (10 * v 0 + v 1)) (by decide +kernel) u u' h
theorem pieceSet_cover : Finset.univ.biUnion pieceSet = Finset.univ := by
  ext i
  simp only [Finset.mem_biUnion, Finset.mem_univ, true_and, iff_true, Rect.mem_set_unit]
  have h0 : (i 0).val < 16 := (i 0).isLt
  have h1 : (i 1).val < 10 := (i 1).isLt
  have h2 : (i 2).val < 128 := (i 2).isLt
  have h3 : (i 3).val < 4000 := (i 3).isLt
  refine ⟨⟨10 * (i 0).val + (i 1).val, by omega⟩, fun a => ?_⟩
  fin_cases a <;> simp [pieceOff] <;> omega

/-! ## Into the ring and out of it -/

/-- Families that hold one array's blocks hold the array. -/
theorem blocks_join {ℓ : Loc nD τ sig} {ι : Type} [Fintype ι] (J : ι → Finset (Idx ℓ)) (hd : ∀ i i', i ≠ i' → Disjoint (J i) (J i'))
    (hc : Finset.univ.biUnion J = Finset.univ) (G : Buf (Elt F) ℓ) (P : ι → sProp 𝕄) (h : ∀ i, P i ⊢ (ℓ ↦[J i]{fullShare} G : sProp 𝕄)) :
    bigSep Finset.univ P ⊢ (ℓ ↦{fullShare} G : sProp 𝕄) := by
  refine (BI.bigSep_mono (s := Finset.univ) (Ψ := fun i => (ℓ ↦[J i]{fullShare} G : sProp 𝕄)) fun i _ => h i).trans ?_
  rw [← pointsTo_biUnion Finset.univ J (fun i _ i' _ h => hd i i' h), hc]
  show iprop(ℓ ↦{fullShare} G) ⊢ (ℓ ↦{fullShare} G : sProp 𝕄)
  exact .rfl

section InOut
variable (c : Dev nD)
theorem tileAt_eq (g : Fin 4) (e) : tileAt (F := F) c g e = (((c : Thread nD τ).loc cc0_scratch0) ↦[tileSet g]{fullShare} e : sProp 𝕄) := by
  unfold tileAt; rw [tileSet_eq]; rfl
theorem pieceAt_eq (u : Fin 160) (f) : pieceAt (F := F) c u f = (((c : Thread nD τ).loc main_v65) ↦[pieceSet u]{fullShare} f : sProp 𝕄) := by
  unfold pieceAt; rw [pieceSet_eq]; rfl
/-- The elements of the scratch outside every tile (there are none, but nothing needs that). -/
abbrev tileSpare : sProp 𝕄 := iprop(∃ f : Buf (Elt F) ((c : Thread nD τ).loc cc0_scratch0), ((c : Thread nD τ).loc cc0_scratch0) ↦[Finset.univ \ Finset.univ.biUnion tileSet]{fullShare} f)
theorem tiles_in : iprop(∃ d, owns (c : Thread nD τ) tiles fullShare d) ⊢ (iprop(bigSep Finset.univ (fun g : Fin 4 => iprop(∃ e, tileAt (F := F) c g e)) ∗ tileSpare c) : sProp 𝕄) := by
  simp only [tiles, owns_whole]
  exact Ring.pieces_split_spare (U := Pipeline.UD sig nD τ) (ℓ := (c : Thread nD τ).loc cc0_scratch0) (q := fullShare) tileSet tileSet_disjoint
    (fun g e => tileAt c g e) (fun g e => tileAt_eq c g e)
theorem tiles_out : (iprop(bigSep Finset.univ (fun g : Fin 4 => iprop(∃ e, tileAt (F := F) c g e)) ∗ tileSpare c) : sProp 𝕄) ⊢ iprop(∃ d, owns (c : Thread nD τ) tiles fullShare d) := by
  simp only [tiles, owns_whole]
  exact Ring.pieces_join_spare (U := Pipeline.UD sig nD τ) (ℓ := (c : Thread nD τ).loc cc0_scratch0) (q := fullShare) tileSet tileSet_disjoint
    (fun g e => tileAt c g e) (fun g e => tileAt_eq c g e)
theorem pieces_in (X : Res F c) : (((c : Thread nD τ).loc main_v65) ↦{fullShare} X : sProp 𝕄) ⊢ bigSep Finset.univ (blank (F := F) c) := by
  iintro H
  iapply (Ring.pieces_split (U := Pipeline.UD sig nD τ) (ℓ := (c : Thread nD τ).loc main_v65) (q := fullShare) pieceSet pieceSet_disjoint pieceSet_cover
    (fun u f => pieceAt c u f) (fun u f => pieceAt_eq c u f))
  iexists X; iexact H
/-- A written piece is held at the array's own contents. -/
theorem written_at (G : Res F c) (u : Fin 160) : written (F := F) c G u ⊢ (((c : Thread nD τ).loc main_v65) ↦[pieceSet u]{fullShare} G : sProp 𝕄) := by
  iintro ⟨%f, %hf, H⟩
  have e : pieceAt (F := F) c u f = (((c : Thread nD τ).loc main_v65) ↦[pieceSet u]{fullShare} G : sProp 𝕄) := by
    rw [pieceAt_eq]
    refine pointsTo_congr fun i hi => ?_
    rw [← pieceSet_eq] at hi
    obtain ⟨j, -, rfl⟩ := Finset.mem_map.mp hi
    exact congrFun hf j
  iapply (Entails.of_eq e); iexact H
theorem pieces_out (G : Res F c) : bigSep Finset.univ (written (F := F) c G) ⊢ (((c : Thread nD τ).loc main_v65) ↦{fullShare} G : sProp 𝕄) := by
  exact blocks_join (ℓ := (c : Thread nD τ).loc main_v65) pieceSet pieceSet_disjoint pieceSet_cover G (written (F := F) c G) (fun u => written_at c G u)
theorem cells_eq : (bigSep Finset.univ (fun g : Fin 4 => cellZero (F := F) c g) : sProp 𝕄)
    = iprop(semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0) := by
  rw [BI.bigSep_eq_bigSepL_of_eq [0, 1, 2, 3] (by decide) (by decide)]
  simp only [BI.bigSepL_cons_cons, BI.bigSepL_singleton, cellZero_0, cellZero_1, cellZero_2, cellZero_3]; rfl
theorem idles_eq : iprop(bigSep Finset.univ (fun g : Fin 4 => cellZero (F := F) c g) ∗ bigSep Finset.univ (fun g : Fin 4 => iprop(∃ e, tileAt (F := F) c g e)))
    = (bigSep Finset.univ (idle c) : sProp 𝕄) :=
  (BI.bigSep_sep Finset.univ (fun g : Fin 4 => cellZero (F := F) c g) (fun g : Fin 4 => iprop(∃ e, tileAt (F := F) c g e))).symm
end InOut

/-- The launch's buffers are the ring before step 0; -/
theorem ring_in (c : Dev nD) (G X : Res F c) :
    iprop((∃ d, owns (c : Thread nD τ) tiles fullShare d)
        ∗ (semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0)
        ∗ ((c : Thread nD τ).loc main_v65) ↦{fullShare} X)
      ⊢ (iprop(ringAt c G 0 ∗ tileSpare c) : sProp 𝕄) := by
  unfold ringAt; rw [Ring.AtBΦ_lt _ _ _ _ _ 0 (by decide), Ring.AtB_zero]; unfold Ring.AtB₀
  rw [← idles_eq, cells_eq]
  iintro ⟨HS, HQ, HD⟩
  ihave HS' := (tiles_in (F := F) c) $$ HS
  icases HS' with ⟨HT, HTsp⟩
  ihave HP := (pieces_in (F := F) c X) $$ HD
  isplitl [HP HQ HT]
  · isplitl [HP]
    · iexact HP
    isplitl [HQ]
    · iexact HQ
    iexact HT
  iexact HTsp
/-- the drained ring is those buffers again, the result now holding `G`. -/
theorem ring_out (c : Dev nD) (G : Res F c) :
    (iprop(ringAt c G 160 ∗ tileSpare c) : sProp 𝕄)
      ⊢ iprop((∃ d, owns (c : Thread nD τ) tiles fullShare d)
        ∗ (semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0)
        ∗ ((c : Thread nD τ).loc main_v65) ↦{fullShare} G) := by
  unfold ringAt; rw [Ring.AtBΦ_ge _ _ _ _ _ 160 (by decide)]; unfold Ring.AtBEnd
  rw [← idles_eq, cells_eq]
  iintro ⟨⟨HP, HQ, HT⟩, HTsp⟩
  isplitl [HT HTsp]
  · iapply (tiles_out (F := F) c)
    isplitl [HT]
    · iexact HT
    iexact HTsp
  isplitl [HQ]
  · iexact HQ
  iapply (pieces_out (F := F) c G)
  iexact HP

/-! ## The ring at a step, opened, and at the next, closed -/

section Steps
variable {M : Type} [URA M] (free : Fin 4 → sProp M) (infl : Fin 4 → Fin 160 → sProp M) (ahead behind : Fin 160 → sProp M)

/-- Four roles listed. -/
theorem roles_eq (P : Fin 4 → sProp M) : bigSep Finset.univ P = iprop(P 0 ∗ P 1 ∗ P 2 ∗ P 3) :=
  bigSep_univ_eq_bigSepL [0, 1, 2, 3] (by decide) (by decide) P

/-- Role `j + 1` before a step is role `j` before the next, -/
theorem role_shift (p : ℕ) (j j' : Fin 4) (hj : j'.val = j.val + 1) :
    Ring.roleB (NB := 160) 4 free infl (p + 1) j = Ring.roleB 4 free infl p j' := by
  have e : p + 1 + j.val = p + j'.val := by omega
  unfold Ring.roleB; rw [e]
  exact if_congr (by omega) rfl rfl
/-- and the last role before a step is the copy the step before issued. -/
theorem role_last (p : ℕ) : Ring.roleB (NB := 160) 4 free infl (p + 1) 3 = infl (Ring.sl 4 p) (Ring.bk 160 p) := by
  rw [Ring.roleB_of_infl _ _ _ _ _ ⟨by show 4 ≤ p + 1 + 3; omega, by show 4 ≤ 3 + 4; omega⟩]
  show infl (Ring.sl 4 (p + 4)) (Ring.bk 160 (p + 1 + 3 - 4)) = _
  rw [Ring.sl_add]; rfl
theorem role_free (p : ℕ) (h : p < 4) : Ring.roleB (NB := 160) 4 free infl p 0 = free (Ring.sl 4 p) := by
  rw [Ring.roleB_of_free _ _ _ _ _ (fun hh => by have := hh.1; simp at this; omega)]; rfl
theorem role_flight (p : ℕ) (h : 4 ≤ p) (j : Fin 4) : Ring.roleB (NB := 160) 4 free infl p j = infl (Ring.sl 4 (p + j.val)) (Ring.bk 160 (p + j.val - 4)) :=
  Ring.roleB_of_infl _ _ _ _ _ ⟨by omega, by omega⟩

/-- What a step does not touch: the three younger groups. -/
def rest3 (p : ℕ) : sProp M :=
  iprop(Ring.roleB (NB := 160) 4 free infl p 1 ∗ Ring.roleB (NB := 160) 4 free infl p 2 ∗ Ring.roleB (NB := 160) 4 free infl p 3)

/-- Before any step: its piece, the pieces after it, the pieces written, its group, the three younger groups. -/
theorem ring_open (p : ℕ) (h : p < 160) :
    Ring.AtB 4 free infl ahead behind p
      = iprop((ahead (Ring.bk 160 p) ∗ bigSep (Ring.aheadSet (p + 1)) ahead) ∗ bigSep (Ring.behindSet 4 p) behind
          ∗ Ring.roleB 4 free infl p 0 ∗ rest3 free infl p) := by
  unfold Ring.AtB rest3
  rw [Ring.aheadSet_open p h, Ring.bigSep_put (Ring.bk_not_mem_aheadSet_succ p h), roles_eq]

/-- Separating conjunction associates, as an equation. -/
theorem sep_assoc_eq (P Q R : sProp M) : iprop((P ∗ Q) ∗ R) = iprop(P ∗ Q ∗ R) :=
  Idealize.SL.BI.Entails.antisymm Idealize.SL.BI.sep_assoc Idealize.SL.BI.sep_assoc'

/-- Before the next step, from the boot: nothing is written yet; -/
theorem ring_next_boot (p : ℕ) (h : p < 4) :
    Ring.AtB 4 free infl ahead behind (p + 1)
      = iprop(bigSep (Ring.aheadSet (p + 1)) ahead ∗ bigSep (Ring.behindSet 4 p) behind
          ∗ rest3 free infl p ∗ infl (Ring.sl 4 p) (Ring.bk 160 p)) := by
  unfold Ring.AtB rest3
  rw [Ring.behindSet_boot 4 (p + 1) (by omega), Ring.behindSet_boot 4 p (by omega), roles_eq, role_last,
    role_shift free infl p 0 1 rfl, role_shift free infl p 1 2 rfl, role_shift free infl p 2 3 rfl]
  simp only [sep_assoc_eq]
/-- later, the piece the step waited for has joined the written ones; -/
theorem ring_next (p : ℕ) (h4 : 4 ≤ p) (h : p < 160) :
    Ring.AtB 4 free infl ahead behind (p + 1)
      = iprop(bigSep (Ring.aheadSet (p + 1)) ahead ∗ (behind (Ring.bk 160 (p - 4)) ∗ bigSep (Ring.behindSet 4 p) behind)
          ∗ rest3 free infl p ∗ infl (Ring.sl 4 p) (Ring.bk 160 p)) := by
  unfold Ring.AtB rest3
  rw [Ring.behindSet_close 4 p h4 h, Ring.bigSep_put (Ring.bk_not_mem_behindSet 4 p h4 h), roles_eq, role_last,
    role_shift free infl p 0 1 rfl, role_shift free infl p 1 2 rfl, role_shift free infl p 2 3 rfl]
  simp only [sep_assoc_eq]
end Steps

/-! ## The body's slices in the ring's terms -/

section Canon
omit [FloatOps F] [Named F]

/-- The slot of a step: the word the body computes is the step modulo 4. -/
def slotWord (i : grid0.Coords) : ℕ :=
  (Scalar.indexCast (Scalar.remsi (Scalar.addi (Scalar.muli (BitVec.ofNat 32 (i 0).val) 10#32) (BitVec.ofNat 32 (i 1).val)) 4#32) : Index).toNat
theorem slotWord_eq : ∀ t : Fin grid0.N, slotWord (grid0.coords t) = (Ring.sl 4 t.val).val := by decide +kernel
/-- The offsets of a store at lane `z` of the step's tile. -/
theorem storeOff (t : Fin grid0.N) (z : ℕ) : (![slotWord (grid0.coords t), 0, z] : Fin 3 → ℕ) = ![(Ring.sl 4 t.val).val, 0, z] := by rw [slotWord_eq]
instance (priority := high) closedOff_0 (t : Fin grid0.N) : ClosedOff (k0_off4 (grid0.coords t)) := ⟨![(Ring.sl 4 t.val).val, 0, 0], storeOff t 0⟩
instance (priority := high) closedOff_1 (t : Fin grid0.N) : ClosedOff (k0_off5 (grid0.coords t)) := ⟨![(Ring.sl 4 t.val).val, 0, 128], storeOff t 128⟩
instance (priority := high) closedOff_2 (t : Fin grid0.N) : ClosedOff (k0_off6 (grid0.coords t)) := ⟨![(Ring.sl 4 t.val).val, 0, 256], storeOff t 256⟩
instance (priority := high) closedOff_3 (t : Fin grid0.N) : ClosedOff (k0_off7 (grid0.coords t)) := ⟨![(Ring.sl 4 t.val).val, 0, 384], storeOff t 384⟩
instance (priority := high) closedOff_4 (t : Fin grid0.N) : ClosedOff (k0_off8 (grid0.coords t)) := ⟨![(Ring.sl 4 t.val).val, 0, 512], storeOff t 512⟩
instance (priority := high) closedOff_5 (t : Fin grid0.N) : ClosedOff (k0_off9 (grid0.coords t)) := ⟨![(Ring.sl 4 t.val).val, 0, 640], storeOff t 640⟩
instance (priority := high) closedOff_6 (t : Fin grid0.N) : ClosedOff (k0_off10 (grid0.coords t)) := ⟨![(Ring.sl 4 t.val).val, 0, 768], storeOff t 768⟩
instance (priority := high) closedOff_7 (t : Fin grid0.N) : ClosedOff (k0_off11 (grid0.coords t)) := ⟨![(Ring.sl 4 t.val).val, 0, 896], storeOff t 896⟩
instance (priority := high) closedOff_8 (t : Fin grid0.N) : ClosedOff (k0_off12 (grid0.coords t)) := ⟨![(Ring.sl 4 t.val).val, 0, 1024], storeOff t 1024⟩
instance (priority := high) closedOff_9 (t : Fin grid0.N) : ClosedOff (k0_off13 (grid0.coords t)) := ⟨![(Ring.sl 4 t.val).val, 0, 1152], storeOff t 1152⟩
instance (priority := high) closedOff_10 (t : Fin grid0.N) : ClosedOff (k0_off14 (grid0.coords t)) := ⟨![(Ring.sl 4 t.val).val, 0, 1280], storeOff t 1280⟩
instance (priority := high) closedOff_11 (t : Fin grid0.N) : ClosedOff (k0_off15 (grid0.coords t)) := ⟨![(Ring.sl 4 t.val).val, 0, 1408], storeOff t 1408⟩
instance (priority := high) closedOff_12 (t : Fin grid0.N) : ClosedOff (k0_off16 (grid0.coords t)) := ⟨![(Ring.sl 4 t.val).val, 0, 1536], storeOff t 1536⟩
instance (priority := high) closedOff_13 (t : Fin grid0.N) : ClosedOff (k0_off17 (grid0.coords t)) := ⟨![(Ring.sl 4 t.val).val, 0, 1664], storeOff t 1664⟩
instance (priority := high) closedOff_14 (t : Fin grid0.N) : ClosedOff (k0_off18 (grid0.coords t)) := ⟨![(Ring.sl 4 t.val).val, 0, 1792], storeOff t 1792⟩
instance (priority := high) closedOff_15 (t : Fin grid0.N) : ClosedOff (k0_off19 (grid0.coords t)) := ⟨![(Ring.sl 4 t.val).val, 0, 1920], storeOff t 1920⟩
instance (priority := high) closedOff_16 (t : Fin grid0.N) : ClosedOff (k0_off20 (grid0.coords t)) := ⟨![(Ring.sl 4 t.val).val, 0, 2048], storeOff t 2048⟩
instance (priority := high) closedOff_17 (t : Fin grid0.N) : ClosedOff (k0_off21 (grid0.coords t)) := ⟨![(Ring.sl 4 t.val).val, 0, 2176], storeOff t 2176⟩
instance (priority := high) closedOff_18 (t : Fin grid0.N) : ClosedOff (k0_off22 (grid0.coords t)) := ⟨![(Ring.sl 4 t.val).val, 0, 2304], storeOff t 2304⟩
instance (priority := high) closedOff_19 (t : Fin grid0.N) : ClosedOff (k0_off23 (grid0.coords t)) := ⟨![(Ring.sl 4 t.val).val, 0, 2432], storeOff t 2432⟩
instance (priority := high) closedOff_20 (t : Fin grid0.N) : ClosedOff (k0_off24 (grid0.coords t)) := ⟨![(Ring.sl 4 t.val).val, 0, 2560], storeOff t 2560⟩
instance (priority := high) closedOff_21 (t : Fin grid0.N) : ClosedOff (k0_off25 (grid0.coords t)) := ⟨![(Ring.sl 4 t.val).val, 0, 2688], storeOff t 2688⟩
instance (priority := high) closedOff_22 (t : Fin grid0.N) : ClosedOff (k0_off26 (grid0.coords t)) := ⟨![(Ring.sl 4 t.val).val, 0, 2816], storeOff t 2816⟩
instance (priority := high) closedOff_23 (t : Fin grid0.N) : ClosedOff (k0_off27 (grid0.coords t)) := ⟨![(Ring.sl 4 t.val).val, 0, 2944], storeOff t 2944⟩
instance (priority := high) closedOff_24 (t : Fin grid0.N) : ClosedOff (k0_off28 (grid0.coords t)) := ⟨![(Ring.sl 4 t.val).val, 0, 3072], storeOff t 3072⟩
instance (priority := high) closedOff_25 (t : Fin grid0.N) : ClosedOff (k0_off29 (grid0.coords t)) := ⟨![(Ring.sl 4 t.val).val, 0, 3200], storeOff t 3200⟩
instance (priority := high) closedOff_26 (t : Fin grid0.N) : ClosedOff (k0_off30 (grid0.coords t)) := ⟨![(Ring.sl 4 t.val).val, 0, 3328], storeOff t 3328⟩
instance (priority := high) closedOff_27 (t : Fin grid0.N) : ClosedOff (k0_off31 (grid0.coords t)) := ⟨![(Ring.sl 4 t.val).val, 0, 3456], storeOff t 3456⟩
instance (priority := high) closedOff_28 (t : Fin grid0.N) : ClosedOff (k0_off32 (grid0.coords t)) := ⟨![(Ring.sl 4 t.val).val, 0, 3584], storeOff t 3584⟩
instance (priority := high) closedOff_29 (t : Fin grid0.N) : ClosedOff (k0_off33 (grid0.coords t)) := ⟨![(Ring.sl 4 t.val).val, 0, 3712], storeOff t 3712⟩
instance (priority := high) closedOff_30 (t : Fin grid0.N) : ClosedOff (k0_off34 (grid0.coords t)) := ⟨![(Ring.sl 4 t.val).val, 0, 3840], storeOff t 3840⟩
instance (priority := high) closedOff_31 (t : Fin grid0.N) : ClosedOff (k0_off35 (grid0.coords t)) := ⟨![(Ring.sl 4 t.val).val, 0, 3968], storeOff t 3968⟩

/-- The copy a step issues: its cell, its piece, its tile; -/
theorem issueCell_off : ∀ t : Fin grid0.N, k0_off36 (grid0.coords t) = ![(Ring.sl 4 t.val).val] := by decide +kernel
@[sl_canon] theorem issueCell (t : Fin grid0.N) :
    (cc0_scratch1.slice (Rect.unit (s := S4) (k0_off36 (grid0.coords t)) S1.size (k0_off36_inb (grid0.coords t)))).squeeze S_ squeezes_S1_S_ = cell (Ring.sl 4 t.val) :=
  congrArg (fun A : DmaSems sig S1 => A.squeeze S_ squeezes_S1_S_) (SemArray.slice_unit_congr _ (issueCell_off t) _ _)
@[sl_canon] theorem issueCell' (t : Fin grid0.N) :
    (cc0_scratch1.slice (Rect.unit (s := S4) (k0_off36 (grid0.coords t)) ![1] (k0_off36_inb (grid0.coords t)))).squeeze S_ squeezes_S1_S_ = cell (Ring.sl 4 t.val) :=
  issueCell t
theorem issuePiece_off : ∀ t : Fin grid0.N, k0_off37 (grid0.coords t) = ![(Ring.bk 160 t.val).val / 10, (Ring.bk 160 t.val).val % 10, 0, 0] := by decide +kernel
@[sl_canon] theorem issuePiece (t : Fin grid0.N) :
    (result.slice (Rect.unit (s := S16x10x128x4000) (k0_off37 (grid0.coords t)) S1x1x128x4000.size (k0_off37_inb (grid0.coords t))) (fun _ => rfl)).squeeze S128x4000 squeezes_S1x1x128x4000_S128x4000 = piece (Ring.bk 160 t.val) :=
  congrArg (fun M : Memref sig .tc .hbm S1x1x128x4000 .f32 => M.squeeze S128x4000 squeezes_S1x1x128x4000_S128x4000) (Memref.slice_unit_congr _ (issuePiece_off t) _ _ (fun _ => rfl) (fun _ => rfl))
@[sl_canon] theorem issuePiece' (t : Fin grid0.N) :
    (result.slice (Rect.unit (s := S16x10x128x4000) (k0_off37 (grid0.coords t)) ![1, 1, 128, 4000] (k0_off37_inb (grid0.coords t))) (fun _ => rfl)).squeeze S128x4000 squeezes_S1x1x128x4000_S128x4000 = piece (Ring.bk 160 t.val) :=
  issuePiece t
theorem issueTile_off : ∀ t : Fin grid0.N, k0_off38 (grid0.coords t) = ![(Ring.sl 4 t.val).val, 0, 0] := by decide +kernel
@[sl_canon] theorem issueTile (t : Fin grid0.N) :
    (tiles.slice (Rect.unit (s := S4x128x4000) (k0_off38 (grid0.coords t)) S1x128x4000.size (k0_off38_inb (grid0.coords t))) (fun _ => rfl)).squeeze S128x4000 squeezes_S1x128x4000_S128x4000 = tile (Ring.sl 4 t.val) :=
  congrArg (fun M : Memref sig .tc .vmem S1x128x4000 .f32 => M.squeeze S128x4000 squeezes_S1x128x4000_S128x4000) (Memref.slice_unit_congr _ (issueTile_off t) _ _ (fun _ => rfl) (fun _ => rfl))
@[sl_canon] theorem issueTile' (t : Fin grid0.N) :
    (tiles.slice (Rect.unit (s := S4x128x4000) (k0_off38 (grid0.coords t)) ![1, 128, 4000] (k0_off38_inb (grid0.coords t))) (fun _ => rfl)).squeeze S128x4000 squeezes_S1x128x4000_S128x4000 = tile (Ring.sl 4 t.val) :=
  issueTile t
/-- the copy it waits for, four steps older; -/
theorem waitCell_off : ∀ t : Fin grid0.N, waits (grid0.coords t) → k0_off1 (grid0.coords t) = ![(Ring.sl 4 t.val).val] := by decide +kernel
@[sl_canon] theorem waitCell (t : Fin grid0.N) (h0 : waits (grid0.coords t)) :
    (cc0_scratch1.slice (Rect.unit (s := S4) (k0_off1 (grid0.coords t)) S1.size (k0_off1_inb (grid0.coords t) h0))).squeeze S_ squeezes_S1_S_ = cell (Ring.sl 4 t.val) :=
  congrArg (fun A : DmaSems sig S1 => A.squeeze S_ squeezes_S1_S_) (SemArray.slice_unit_congr _ (waitCell_off t h0) _ _)
@[sl_canon] theorem waitCell' (t : Fin grid0.N) (h0 : waits (grid0.coords t)) :
    (cc0_scratch1.slice (Rect.unit (s := S4) (k0_off1 (grid0.coords t)) ![1] (k0_off1_inb (grid0.coords t) h0))).squeeze S_ squeezes_S1_S_ = cell (Ring.sl 4 t.val) :=
  waitCell t h0
theorem waitPiece_off : ∀ t : Fin grid0.N, waits (grid0.coords t) → k0_off2 (grid0.coords t) = ![(Ring.bk 160 (t.val - 4)).val / 10, (Ring.bk 160 (t.val - 4)).val % 10, 0, 0] := by decide +kernel
@[sl_canon] theorem waitPiece (t : Fin grid0.N) (h0 : waits (grid0.coords t)) :
    (result.slice (Rect.unit (s := S16x10x128x4000) (k0_off2 (grid0.coords t)) S1x1x128x4000.size (k0_off2_inb (grid0.coords t) h0)) (fun _ => rfl)).squeeze S128x4000 squeezes_S1x1x128x4000_S128x4000 = piece (Ring.bk 160 (t.val - 4)) :=
  congrArg (fun M : Memref sig .tc .hbm S1x1x128x4000 .f32 => M.squeeze S128x4000 squeezes_S1x1x128x4000_S128x4000) (Memref.slice_unit_congr _ (waitPiece_off t h0) _ _ (fun _ => rfl) (fun _ => rfl))
@[sl_canon] theorem waitPiece' (t : Fin grid0.N) (h0 : waits (grid0.coords t)) :
    (result.slice (Rect.unit (s := S16x10x128x4000) (k0_off2 (grid0.coords t)) ![1, 1, 128, 4000] (k0_off2_inb (grid0.coords t) h0)) (fun _ => rfl)).squeeze S128x4000 squeezes_S1x1x128x4000_S128x4000 = piece (Ring.bk 160 (t.val - 4)) :=
  waitPiece t h0
theorem waitTile_off : ∀ t : Fin grid0.N, waits (grid0.coords t) → k0_off3 (grid0.coords t) = ![(Ring.sl 4 t.val).val, 0, 0] := by decide +kernel
@[sl_canon] theorem waitTile (t : Fin grid0.N) (h0 : waits (grid0.coords t)) :
    (tiles.slice (Rect.unit (s := S4x128x4000) (k0_off3 (grid0.coords t)) S1x128x4000.size (k0_off3_inb (grid0.coords t) h0)) (fun _ => rfl)).squeeze S128x4000 squeezes_S1x128x4000_S128x4000 = tile (Ring.sl 4 t.val) :=
  congrArg (fun M : Memref sig .tc .vmem S1x128x4000 .f32 => M.squeeze S128x4000 squeezes_S1x128x4000_S128x4000) (Memref.slice_unit_congr _ (waitTile_off t h0) _ _ (fun _ => rfl) (fun _ => rfl))
@[sl_canon] theorem waitTile' (t : Fin grid0.N) (h0 : waits (grid0.coords t)) :
    (tiles.slice (Rect.unit (s := S4x128x4000) (k0_off3 (grid0.coords t)) ![1, 128, 4000] (k0_off3_inb (grid0.coords t) h0)) (fun _ => rfl)).squeeze S128x4000 squeezes_S1x128x4000_S128x4000 = tile (Ring.sl 4 t.val) :=
  waitTile t h0
/-- the four copies the last step drains. -/
theorem drainCell_0_off : ∀ t : Fin grid0.N, drains (grid0.coords t) → (![0] : Fin 1 → ℕ) = ![(Ring.sl 4 (t.val + 1)).val] := by decide +kernel
@[sl_canon] theorem drainCell_0 (t : Fin grid0.N) (h1 : drains (grid0.coords t)) :
    (cc0_scratch1.slice (Rect.unit (s := S4) ![0] S1.size inb_S4_S1_0)).squeeze S_ squeezes_S1_S_ = cell (Ring.sl 4 (t.val + 1)) :=
  congrArg (fun A : DmaSems sig S1 => A.squeeze S_ squeezes_S1_S_) (SemArray.slice_unit_congr _ (drainCell_0_off t h1) _ _)
@[sl_canon] theorem drainCell_0' (t : Fin grid0.N) (h1 : drains (grid0.coords t)) :
    (cc0_scratch1.slice (Rect.unit (s := S4) ![0] ![1] inb_S4_S1_0)).squeeze S_ squeezes_S1_S_ = cell (Ring.sl 4 (t.val + 1)) :=
  drainCell_0 t h1
theorem drainPiece_0_off : ∀ t : Fin grid0.N, drains (grid0.coords t) → (![15, 6, 0, 0] : Fin 4 → ℕ) = ![(Ring.bk 160 (t.val - 3)).val / 10, (Ring.bk 160 (t.val - 3)).val % 10, 0, 0] := by decide +kernel
@[sl_canon] theorem drainPiece_0 (t : Fin grid0.N) (h1 : drains (grid0.coords t)) :
    (result.slice (Rect.unit (s := S16x10x128x4000) ![15, 6, 0, 0] S1x1x128x4000.size inb_S16x10x128x4000_S1x1x128x4000_15_6_0_0) (fun _ => rfl)).squeeze S128x4000 squeezes_S1x1x128x4000_S128x4000 = piece (Ring.bk 160 (t.val - 3)) :=
  congrArg (fun M : Memref sig .tc .hbm S1x1x128x4000 .f32 => M.squeeze S128x4000 squeezes_S1x1x128x4000_S128x4000) (Memref.slice_unit_congr _ (drainPiece_0_off t h1) _ _ (fun _ => rfl) (fun _ => rfl))
@[sl_canon] theorem drainPiece_0' (t : Fin grid0.N) (h1 : drains (grid0.coords t)) :
    (result.slice (Rect.unit (s := S16x10x128x4000) ![15, 6, 0, 0] ![1, 1, 128, 4000] inb_S16x10x128x4000_S1x1x128x4000_15_6_0_0) (fun _ => rfl)).squeeze S128x4000 squeezes_S1x1x128x4000_S128x4000 = piece (Ring.bk 160 (t.val - 3)) :=
  drainPiece_0 t h1
theorem drainTile_0_off : ∀ t : Fin grid0.N, drains (grid0.coords t) → (![0, 0, 0] : Fin 3 → ℕ) = ![(Ring.sl 4 (t.val + 1)).val, 0, 0] := by decide +kernel
@[sl_canon] theorem drainTile_0 (t : Fin grid0.N) (h1 : drains (grid0.coords t)) :
    (tiles.slice (Rect.unit (s := S4x128x4000) ![0, 0, 0] S1x128x4000.size inb_S4x128x4000_S1x128x4000_0_0_0) (fun _ => rfl)).squeeze S128x4000 squeezes_S1x128x4000_S128x4000 = tile (Ring.sl 4 (t.val + 1)) :=
  congrArg (fun M : Memref sig .tc .vmem S1x128x4000 .f32 => M.squeeze S128x4000 squeezes_S1x128x4000_S128x4000) (Memref.slice_unit_congr _ (drainTile_0_off t h1) _ _ (fun _ => rfl) (fun _ => rfl))
@[sl_canon] theorem drainTile_0' (t : Fin grid0.N) (h1 : drains (grid0.coords t)) :
    (tiles.slice (Rect.unit (s := S4x128x4000) ![0, 0, 0] ![1, 128, 4000] inb_S4x128x4000_S1x128x4000_0_0_0) (fun _ => rfl)).squeeze S128x4000 squeezes_S1x128x4000_S128x4000 = tile (Ring.sl 4 (t.val + 1)) :=
  drainTile_0 t h1
theorem drainCell_1_off : ∀ t : Fin grid0.N, drains (grid0.coords t) → (![1] : Fin 1 → ℕ) = ![(Ring.sl 4 (t.val + 2)).val] := by decide +kernel
@[sl_canon] theorem drainCell_1 (t : Fin grid0.N) (h1 : drains (grid0.coords t)) :
    (cc0_scratch1.slice (Rect.unit (s := S4) ![1] S1.size inb_S4_S1_1)).squeeze S_ squeezes_S1_S_ = cell (Ring.sl 4 (t.val + 2)) :=
  congrArg (fun A : DmaSems sig S1 => A.squeeze S_ squeezes_S1_S_) (SemArray.slice_unit_congr _ (drainCell_1_off t h1) _ _)
@[sl_canon] theorem drainCell_1' (t : Fin grid0.N) (h1 : drains (grid0.coords t)) :
    (cc0_scratch1.slice (Rect.unit (s := S4) ![1] ![1] inb_S4_S1_1)).squeeze S_ squeezes_S1_S_ = cell (Ring.sl 4 (t.val + 2)) :=
  drainCell_1 t h1
theorem drainPiece_1_off : ∀ t : Fin grid0.N, drains (grid0.coords t) → (![15, 7, 0, 0] : Fin 4 → ℕ) = ![(Ring.bk 160 (t.val - 2)).val / 10, (Ring.bk 160 (t.val - 2)).val % 10, 0, 0] := by decide +kernel
@[sl_canon] theorem drainPiece_1 (t : Fin grid0.N) (h1 : drains (grid0.coords t)) :
    (result.slice (Rect.unit (s := S16x10x128x4000) ![15, 7, 0, 0] S1x1x128x4000.size inb_S16x10x128x4000_S1x1x128x4000_15_7_0_0) (fun _ => rfl)).squeeze S128x4000 squeezes_S1x1x128x4000_S128x4000 = piece (Ring.bk 160 (t.val - 2)) :=
  congrArg (fun M : Memref sig .tc .hbm S1x1x128x4000 .f32 => M.squeeze S128x4000 squeezes_S1x1x128x4000_S128x4000) (Memref.slice_unit_congr _ (drainPiece_1_off t h1) _ _ (fun _ => rfl) (fun _ => rfl))
@[sl_canon] theorem drainPiece_1' (t : Fin grid0.N) (h1 : drains (grid0.coords t)) :
    (result.slice (Rect.unit (s := S16x10x128x4000) ![15, 7, 0, 0] ![1, 1, 128, 4000] inb_S16x10x128x4000_S1x1x128x4000_15_7_0_0) (fun _ => rfl)).squeeze S128x4000 squeezes_S1x1x128x4000_S128x4000 = piece (Ring.bk 160 (t.val - 2)) :=
  drainPiece_1 t h1
theorem drainTile_1_off : ∀ t : Fin grid0.N, drains (grid0.coords t) → (![1, 0, 0] : Fin 3 → ℕ) = ![(Ring.sl 4 (t.val + 2)).val, 0, 0] := by decide +kernel
@[sl_canon] theorem drainTile_1 (t : Fin grid0.N) (h1 : drains (grid0.coords t)) :
    (tiles.slice (Rect.unit (s := S4x128x4000) ![1, 0, 0] S1x128x4000.size inb_S4x128x4000_S1x128x4000_1_0_0) (fun _ => rfl)).squeeze S128x4000 squeezes_S1x128x4000_S128x4000 = tile (Ring.sl 4 (t.val + 2)) :=
  congrArg (fun M : Memref sig .tc .vmem S1x128x4000 .f32 => M.squeeze S128x4000 squeezes_S1x128x4000_S128x4000) (Memref.slice_unit_congr _ (drainTile_1_off t h1) _ _ (fun _ => rfl) (fun _ => rfl))
@[sl_canon] theorem drainTile_1' (t : Fin grid0.N) (h1 : drains (grid0.coords t)) :
    (tiles.slice (Rect.unit (s := S4x128x4000) ![1, 0, 0] ![1, 128, 4000] inb_S4x128x4000_S1x128x4000_1_0_0) (fun _ => rfl)).squeeze S128x4000 squeezes_S1x128x4000_S128x4000 = tile (Ring.sl 4 (t.val + 2)) :=
  drainTile_1 t h1
theorem drainCell_2_off : ∀ t : Fin grid0.N, drains (grid0.coords t) → (![2] : Fin 1 → ℕ) = ![(Ring.sl 4 (t.val + 3)).val] := by decide +kernel
@[sl_canon] theorem drainCell_2 (t : Fin grid0.N) (h1 : drains (grid0.coords t)) :
    (cc0_scratch1.slice (Rect.unit (s := S4) ![2] S1.size inb_S4_S1_2)).squeeze S_ squeezes_S1_S_ = cell (Ring.sl 4 (t.val + 3)) :=
  congrArg (fun A : DmaSems sig S1 => A.squeeze S_ squeezes_S1_S_) (SemArray.slice_unit_congr _ (drainCell_2_off t h1) _ _)
@[sl_canon] theorem drainCell_2' (t : Fin grid0.N) (h1 : drains (grid0.coords t)) :
    (cc0_scratch1.slice (Rect.unit (s := S4) ![2] ![1] inb_S4_S1_2)).squeeze S_ squeezes_S1_S_ = cell (Ring.sl 4 (t.val + 3)) :=
  drainCell_2 t h1
theorem drainPiece_2_off : ∀ t : Fin grid0.N, drains (grid0.coords t) → (![15, 8, 0, 0] : Fin 4 → ℕ) = ![(Ring.bk 160 (t.val - 1)).val / 10, (Ring.bk 160 (t.val - 1)).val % 10, 0, 0] := by decide +kernel
@[sl_canon] theorem drainPiece_2 (t : Fin grid0.N) (h1 : drains (grid0.coords t)) :
    (result.slice (Rect.unit (s := S16x10x128x4000) ![15, 8, 0, 0] S1x1x128x4000.size inb_S16x10x128x4000_S1x1x128x4000_15_8_0_0) (fun _ => rfl)).squeeze S128x4000 squeezes_S1x1x128x4000_S128x4000 = piece (Ring.bk 160 (t.val - 1)) :=
  congrArg (fun M : Memref sig .tc .hbm S1x1x128x4000 .f32 => M.squeeze S128x4000 squeezes_S1x1x128x4000_S128x4000) (Memref.slice_unit_congr _ (drainPiece_2_off t h1) _ _ (fun _ => rfl) (fun _ => rfl))
@[sl_canon] theorem drainPiece_2' (t : Fin grid0.N) (h1 : drains (grid0.coords t)) :
    (result.slice (Rect.unit (s := S16x10x128x4000) ![15, 8, 0, 0] ![1, 1, 128, 4000] inb_S16x10x128x4000_S1x1x128x4000_15_8_0_0) (fun _ => rfl)).squeeze S128x4000 squeezes_S1x1x128x4000_S128x4000 = piece (Ring.bk 160 (t.val - 1)) :=
  drainPiece_2 t h1
theorem drainTile_2_off : ∀ t : Fin grid0.N, drains (grid0.coords t) → (![2, 0, 0] : Fin 3 → ℕ) = ![(Ring.sl 4 (t.val + 3)).val, 0, 0] := by decide +kernel
@[sl_canon] theorem drainTile_2 (t : Fin grid0.N) (h1 : drains (grid0.coords t)) :
    (tiles.slice (Rect.unit (s := S4x128x4000) ![2, 0, 0] S1x128x4000.size inb_S4x128x4000_S1x128x4000_2_0_0) (fun _ => rfl)).squeeze S128x4000 squeezes_S1x128x4000_S128x4000 = tile (Ring.sl 4 (t.val + 3)) :=
  congrArg (fun M : Memref sig .tc .vmem S1x128x4000 .f32 => M.squeeze S128x4000 squeezes_S1x128x4000_S128x4000) (Memref.slice_unit_congr _ (drainTile_2_off t h1) _ _ (fun _ => rfl) (fun _ => rfl))
@[sl_canon] theorem drainTile_2' (t : Fin grid0.N) (h1 : drains (grid0.coords t)) :
    (tiles.slice (Rect.unit (s := S4x128x4000) ![2, 0, 0] ![1, 128, 4000] inb_S4x128x4000_S1x128x4000_2_0_0) (fun _ => rfl)).squeeze S128x4000 squeezes_S1x128x4000_S128x4000 = tile (Ring.sl 4 (t.val + 3)) :=
  drainTile_2 t h1
theorem drainCell_3_off : ∀ t : Fin grid0.N, drains (grid0.coords t) → (![3] : Fin 1 → ℕ) = ![(Ring.sl 4 t.val).val] := by decide +kernel
@[sl_canon] theorem drainCell_3 (t : Fin grid0.N) (h1 : drains (grid0.coords t)) :
    (cc0_scratch1.slice (Rect.unit (s := S4) ![3] S1.size inb_S4_S1_3)).squeeze S_ squeezes_S1_S_ = cell (Ring.sl 4 t.val) :=
  congrArg (fun A : DmaSems sig S1 => A.squeeze S_ squeezes_S1_S_) (SemArray.slice_unit_congr _ (drainCell_3_off t h1) _ _)
@[sl_canon] theorem drainCell_3' (t : Fin grid0.N) (h1 : drains (grid0.coords t)) :
    (cc0_scratch1.slice (Rect.unit (s := S4) ![3] ![1] inb_S4_S1_3)).squeeze S_ squeezes_S1_S_ = cell (Ring.sl 4 t.val) :=
  drainCell_3 t h1
theorem drainPiece_3_off : ∀ t : Fin grid0.N, drains (grid0.coords t) → (![15, 9, 0, 0] : Fin 4 → ℕ) = ![(Ring.bk 160 t.val).val / 10, (Ring.bk 160 t.val).val % 10, 0, 0] := by decide +kernel
@[sl_canon] theorem drainPiece_3 (t : Fin grid0.N) (h1 : drains (grid0.coords t)) :
    (result.slice (Rect.unit (s := S16x10x128x4000) ![15, 9, 0, 0] S1x1x128x4000.size inb_S16x10x128x4000_S1x1x128x4000_15_9_0_0) (fun _ => rfl)).squeeze S128x4000 squeezes_S1x1x128x4000_S128x4000 = piece (Ring.bk 160 t.val) :=
  congrArg (fun M : Memref sig .tc .hbm S1x1x128x4000 .f32 => M.squeeze S128x4000 squeezes_S1x1x128x4000_S128x4000) (Memref.slice_unit_congr _ (drainPiece_3_off t h1) _ _ (fun _ => rfl) (fun _ => rfl))
@[sl_canon] theorem drainPiece_3' (t : Fin grid0.N) (h1 : drains (grid0.coords t)) :
    (result.slice (Rect.unit (s := S16x10x128x4000) ![15, 9, 0, 0] ![1, 1, 128, 4000] inb_S16x10x128x4000_S1x1x128x4000_15_9_0_0) (fun _ => rfl)).squeeze S128x4000 squeezes_S1x1x128x4000_S128x4000 = piece (Ring.bk 160 t.val) :=
  drainPiece_3 t h1
theorem drainTile_3_off : ∀ t : Fin grid0.N, drains (grid0.coords t) → (![3, 0, 0] : Fin 3 → ℕ) = ![(Ring.sl 4 t.val).val, 0, 0] := by decide +kernel
@[sl_canon] theorem drainTile_3 (t : Fin grid0.N) (h1 : drains (grid0.coords t)) :
    (tiles.slice (Rect.unit (s := S4x128x4000) ![3, 0, 0] S1x128x4000.size inb_S4x128x4000_S1x128x4000_3_0_0) (fun _ => rfl)).squeeze S128x4000 squeezes_S1x128x4000_S128x4000 = tile (Ring.sl 4 t.val) :=
  congrArg (fun M : Memref sig .tc .vmem S1x128x4000 .f32 => M.squeeze S128x4000 squeezes_S1x128x4000_S128x4000) (Memref.slice_unit_congr _ (drainTile_3_off t h1) _ _ (fun _ => rfl) (fun _ => rfl))
@[sl_canon] theorem drainTile_3' (t : Fin grid0.N) (h1 : drains (grid0.coords t)) :
    (tiles.slice (Rect.unit (s := S4x128x4000) ![3, 0, 0] ![1, 128, 4000] inb_S4x128x4000_S1x128x4000_3_0_0) (fun _ => rfl)).squeeze S128x4000 squeezes_S1x128x4000_S128x4000 = tile (Ring.sl 4 t.val) :=
  drainTile_3 t h1
end Canon

end Cert.KernelIdeal.Behind

end
-- ==== Proof.KernelIdealTile.lean ====
/- What one grid point writes: the values of one block, tile of 128 lanes by tile of 128 lanes, from the four input blocks, and
   the contents of the scratch tile after the body's stores. -/
module

public import proofs.«01_k».proof.Proof.KernelIdealRing
public import Idealize.ShloMosaic.Lib.Pipeline.Value
public import Idealize.ShloMosaic.Lib.ValueLayout
public import Idealize.ShloMosaic.Lib.Pointwise.Index

@[expose] public section

set_option maxRecDepth 16384

noncomputable section

namespace Cert.KernelIdeal.Behind

open Cert.KernelIdeal.Gen
open Idealize.ShloMosaic Idealize.ShloMosaic.TcCoe Idealize.ShloMosaic.Tactic
open Idealize.SL Idealize.SL.RA Idealize.SL.BI
open Idealize.ShloMosaic.Rounds

variable {F : FTy → Type} [FloatOps F] [Named F]

/-- The constant by which the kernel turns natural logarithms into binary ones. -/
def invLn2 : F .f32 := Named.named κ "inv_ln2" 0x3FB8AA3B#32

theorem xTile_inb (n : ℕ) : ∀ a, (![0, 0, 128 * (n % 32)] : Fin 3 → Nat) a + S1x128x128.size a ≤ S1x128x4096.size a := by
  have : n % 32 < 32 := Nat.mod_lt _ (by decide)
  intro a; fin_cases a <;> simp <;> omega

/-! ## The values of a block -/

section Values
variable (x0 : Vec F S1x128x4096 .f32) (x1 : Vec F S1x128x512 .f32) (x2 : Vec F S128x4 .f32) (x3 : Vec F S128x128 .bf16)

/-- The 0/1 matrix of the scan, the four columns −α, r, δ, δ^r, and the four tables. -/
def scanM : Vec F S128x128 .bf16 := View.ld x3 (Rect.unit (s := S128x128) ![0, 0] S128x128.size inb_S128x128_S128x128_0_0)
def colA : FVec F S128x1 .f32 := shapeCast S128x1 (View.ld x2 (Rect.unit (s := S128x4) ![0, 0] S128x1.size inb_S128x4_S128x1_0_0)) shapeCasts_S128x1_S128x1
def colR : FVec F S128x1 .f32 := shapeCast S128x1 (View.ld x2 (Rect.unit (s := S128x4) ![0, 1] S128x1.size inb_S128x4_S128x1_0_1)) shapeCasts_S128x1_S128x1
def colD : FVec F S128x1 .f32 := shapeCast S128x1 (View.ld x2 (Rect.unit (s := S128x4) ![0, 2] S128x1.size inb_S128x4_S128x1_0_2)) shapeCasts_S128x1_S128x1
def colDR : FVec F S128x1 .f32 := shapeCast S128x1 (View.ld x2 (Rect.unit (s := S128x4) ![0, 3] S128x1.size inb_S128x4_S128x1_0_3)) shapeCasts_S128x1_S128x1
def tabS : FVec F S128x128 .f32 := shapeCast S128x128 (View.ld x1 (Rect.unit (s := S1x128x512) ![0, 0, 0] S1x128x128.size inb_S1x128x512_S1x128x128_0_0_0)) shapeCasts_S1x128x128_S128x128
def tabP0 : FVec F S128x128 .f32 := shapeCast S128x128 (View.ld x1 (Rect.unit (s := S1x128x512) ![0, 0, 128] S1x128x128.size inb_S1x128x512_S1x128x128_0_0_128)) shapeCasts_S1x128x128_S128x128
def tabP : FVec F S128x128 .f32 := shapeCast S128x128 (View.ld x1 (Rect.unit (s := S1x128x512) ![0, 0, 256] S1x128x128.size inb_S1x128x512_S1x128x128_0_0_256)) shapeCasts_S1x128x128_S128x128
def tabPH : FVec F S128x128 .f32 := shapeCast S128x128 (View.ld x1 (Rect.unit (s := S1x128x512) ![0, 0, 384] S1x128x128.size inb_S1x128x512_S1x128x128_0_0_384)) shapeCasts_S1x128x128_S128x128

/-- Tile `n` of the input block. -/
def xTile (n : ℕ) : FVec F S128x128 .f32 :=
  shapeCast S128x128 (View.ld x0 (Rect.unit (s := S1x128x4096) ![0, 0, 128 * (n % 32)] S1x128x128.size (xTile_inb n))) shapeCasts_S1x128x128_S128x128

/-- The sums of `u` inside the two halves of 64 lanes, rescaled: the two dot products take `u` rounded to bf16 and the rest. -/
def halves (u : FVec F S128x128 .f32) : FVec F S128x128 .f32 :=
  mulf (addf (matmul dot_S128x128_S128x128_S128x128_1_0_0_1_n_n none (truncf .bf16 u bitsLt_bf16_f32) (scanM x3) (constant S128x128 .f32 0x00000000#32))
      (matmul dot_S128x128_S128x128_S128x128_1_0_0_1_n_n none (truncf .bf16 (subf u (extf .f32 (truncf .bf16 u bitsLt_bf16_f32) bitsLt_bf16_f32)) bitsLt_bf16_f32) (scanM x3) (constant S128x128 .f32 0x00000000#32)))
    (tabP0 x1)
/-- The second half also takes the last lane of the first one. -/
def joined (u : FVec F S128x128 .f32) : FVec F S128x128 .f32 :=
  addf (halves x1 x3 u) (mulf (tabPH x1) (broadcastTo S128x128 (extractStridedSlice S128x1 ![0, 63] (halves x1 x3 u) slices_S128x128_o0_63_S128x1) broadcasts_S128x1_S128x128))

/-- The moving average over tile `n`: the first tile starts it at its first lane, a later one takes the last lane of the tile before. -/
def average : ℕ → FVec F S128x128 .f32
  | 0 => joined x1 x3 (select (cmpi .eq (iota .tc S128x128 32 [1] iota_S128x128_d1_w32) (broadcast S128x128 0#32)) (xTile x0 0) (mulf (xTile x0 0) (tabS x1)))
  | n + 1 => addf (joined x1 x3 (mulf (xTile x0 (n + 1)) (tabS x1)))
      (mulf (tabP x1) (broadcastTo S128x128 (extractStridedSlice S128x1 ![0, 127] (average n) slices_S128x128_o0_127_S128x1) broadcasts_S128x1_S128x128))

/-- A tile before δ^r is taken off, and after. -/
def powered (n : ℕ) : FVec F S128x128 .f32 :=
  exp2 (mulf (broadcastTo S128x128 (colR x2) broadcasts_S128x1_S128x128)
    (mulf (log (addf (mulf (xTile x0 n)
        (exp2 (mulf (broadcastTo S128x128 (colA x2) broadcasts_S128x1_S128x128)
          (mulf (log (addf (average x0 x1 x3 n) (broadcast S128x128 (Scalar.ofBits .f32 0x3727C5AC#32)))) (broadcast S128x128 invLn2)))))
      (broadcastTo S128x128 (colD x2) broadcasts_S128x1_S128x128))) (broadcast S128x128 invLn2)))
def normed (n : ℕ) : FVec F S128x128 .f32 :=
  subf (powered x0 x1 x2 x3 n) (broadcastTo S128x128 (colDR x2) broadcasts_S128x1_S128x128)

/-- The block's values, at row `i 0` and lane `i 1`. -/
def blockOut : Vec F S128x4000 .f32 := fun i =>
  normed x0 x1 x2 x3 ((i 1).val / 128) (ix2 (n0 := 128) (n1 := 128) (i 0) ⟨(i 1).val % 128, Nat.mod_lt _ (by decide)⟩)
end Values

/-! ## The scratch tile, store by store -/

/-- The scratch's contents. -/
abbrev Scr (F : FTy → Type) : Type := (Memref.whole cc0_scratch0 : Memref sig .tc .vmem S4x128x4000 .f32).view.ty.Contents (Elt F)

/-- The scratch tile `g` holds, on its lanes below `w`, the values `V`. -/
def Filled (g : Fin 4) (V : Vec F S128x4000 .f32) (w : ℕ) (e : Scr F) : Prop :=
  ∀ (a : Fin 128) (b : Fin 4000), b.val < w → tiles.view.read (Elt F) e (ix3 (n0 := 4) (n1 := 128) (n2 := 4000) g a b) = V (ix2 (n0 := 128) (n1 := 4000) a b)

theorem filled_zero (g : Fin 4) (V : Vec F S128x4000 .f32) (e : Scr F) : Filled g V 0 e := fun _ _ h => absurd h (Nat.not_lt_zero _)

/-- A store of `W` lanes at lane `w` of the tile fills them: the lanes below are left as they were. -/
theorem Filled.store {g : Fin 4} {V : Vec F S128x4000 .f32} {w W : ℕ} {e : Scr F} (h : Filled g V w e) {off : Fin 3 → ℕ}
    (inb : ∀ a, off a + (![1, 128, W] : Fin 3 → ℕ) a ≤ S4x128x4000.size a) (hoff : off = ![g.val, 0, w])
    (P : (⟨3, ![1, 128, W]⟩ : Shape).Idx → Elt F .f32)
    (hP : ∀ (a : Fin 128) (b : Fin W) (hb : w + b.val < 4000), P (ix3 (n0 := 1) (n1 := 128) (n2 := W) 0 a b) = V (ix2 (n0 := 128) (n1 := 4000) a ⟨w + b.val, hb⟩)) :
    Filled g V (w + W) (View.write (Elt F) (tiles.access (Rect.unit (s := S4x128x4000) off ![1, 128, W] inb)) e P Finset.univ) := by
  subst hoff
  intro a b hb
  have h2 := inb 2
  by_cases hlt : b.val < w
  · rw [View.read_slice_write_of_not_mem]
    · exact h a b hlt
    · intro hm
      obtain ⟨x, -, hx⟩ := Finset.mem_map.mp hm
      have := congrArg (fun i : S4x128x4000.Idx => (i 2).val) hx
      simp at this
      omega
  · have hw : b.val - w < W := by omega
    have hE : ix3 (n0 := 4) (n1 := 128) (n2 := 4000) g a b
        = (Rect.unit (s := S4x128x4000) ![g.val, 0, w] ![1, 128, W] inb).emb (ix3 (n0 := 1) (n1 := 128) (n2 := W) 0 a ⟨b.val - w, hw⟩) := by
      funext i
      apply Fin.ext
      fin_cases i <;> simp <;> omega
    rw [hE, View.read_slice_write_emb _ _ _ (Finset.mem_univ _), hP a ⟨b.val - w, hw⟩ (by have := b.isLt; simp; omega)]
    congr 1
    funext i
    apply Fin.ext
    fin_cases i <;> simp <;> omega

/-- The copy's source reads the filled tile. -/
theorem Filled.read {g : Fin 4} {V : Vec F S128x4000 .f32} {e : Scr F} (h : Filled g V 4000 e) : (tile g).view.read (Elt F) e = V := by
  funext j
  obtain ⟨a, b, rfl⟩ : ∃ (a : Fin 128) (b : Fin 4000), j = ix2 a b := ⟨j 0, j 1, (ix2_eta j).symm⟩
  refine Eq.trans ?_ (h a b b.isLt)
  unfold tile
  rw [Memref.read_squeeze_slice (hc := (by decide : S1x128x4000.ShapeCasts S128x4000)), Idealize.ShloMosaic.shapeCast_apply _ _ _ (ix3 (n0 := 1) (n1 := 128) (n2 := 4000) 0 a b) (by simp [Shape.rowMajor_val_two, Shape.rowMajor_val_three])]
  show View.read (Elt F) tiles.view e _ = _
  congr 1
  funext i
  apply Fin.ext
  fin_cases i <;> simp

section Stores
variable (x0 : Vec F S1x128x4096 .f32) (x1 : Vec F S1x128x512 .f32) (x2 : Vec F S128x4 .f32) (x3 : Vec F S128x128 .bf16)

/-- A full tile of the block, stored; -/
theorem stored_full (n : ℕ) (a : Fin 128) (b : Fin 128) (hb : 128 * n + b.val < 4000) :
    (shapeCast S1x128x128 (normed x0 x1 x2 x3 n) shapeCasts_S128x128_S1x128x128 : FVec F S1x128x128 .f32) (ix3 (n0 := 1) (n1 := 128) (n2 := 128) 0 a b)
      = blockOut x0 x1 x2 x3 (ix2 (n0 := 128) (n1 := 4000) a ⟨128 * n + b.val, hb⟩) := by
  have hd : (128 * n + b.val) / 128 = n := by have := b.isLt; omega
  have hm : (128 * n + b.val) % 128 = b.val := by have := b.isLt; omega
  rw [Idealize.ShloMosaic.shapeCast_apply _ _ _ (ix2 a b) (by simp [Shape.rowMajor_val_two, Shape.rowMajor_val_three])]
  show _ = normed x0 x1 x2 x3 ((128 * n + b.val) / 128) (ix2 a ⟨(128 * n + b.val) % 128, _⟩)
  simp only [hd, hm]
/-- the last one keeps 32 lanes. -/
theorem stored_last (a : Fin 128) (b : Fin 32) (hb : 3968 + b.val < 4000) :
    (shapeCast S1x128x32 (extractStridedSlice S128x32 ![0, 0] (normed x0 x1 x2 x3 31) slices_S128x128_o0_0_S128x32) shapeCasts_S128x32_S1x128x32 : FVec F S1x128x32 .f32) (ix3 (n0 := 1) (n1 := 128) (n2 := 32) 0 a b)
      = blockOut x0 x1 x2 x3 (ix2 (n0 := 128) (n1 := 4000) a ⟨3968 + b.val, hb⟩) := by
  have hd : (3968 + b.val) / 128 = 31 := by have := b.isLt; omega
  have hm : (3968 + b.val) % 128 = b.val := by have := b.isLt; omega
  rw [Idealize.ShloMosaic.shapeCast_apply _ _ _ (ix2 a b) (by simp [Shape.rowMajor_val_two, Shape.rowMajor_val_three]),
    extractStridedSlice_apply _ _ _ _ (ix2 a (⟨b.val, by have := b.isLt; omega⟩ : Fin 128)) (by intro i; fin_cases i <;> simp)]
  show _ = normed x0 x1 x2 x3 ((3968 + b.val) / 128) (ix2 a ⟨(3968 + b.val) % 128, _⟩)
  simp only [hd, hm]

variable {x0 x1 x2 x3}
/-- The scratch tile holds the block on its first `n` tiles of lanes. -/
def FilledTo (g : Fin 4) (x0 : Vec F S1x128x4096 .f32) (x1 : Vec F S1x128x512 .f32) (x2 : Vec F S128x4 .f32) (x3 : Vec F S128x128 .bf16) (n : ℕ) (e : Scr F) : Prop :=
  Filled g (blockOut x0 x1 x2 x3) (128 * n) e
theorem filledTo_zero (g : Fin 4) (e : Scr F) : FilledTo g x0 x1 x2 x3 0 e := filled_zero _ _ _
/-- The store of full tile `n`; -/
theorem FilledTo.full {n : ℕ} {g : Fin 4} {e : Scr F} {off : Fin 3 → ℕ}
    (inb : ∀ a, off a + (![1, 128, 128] : Fin 3 → ℕ) a ≤ S4x128x4000.size a) (hoff : off = ![g.val, 0, 128 * n])
    (P : S1x128x128.Idx → Elt F .f32) (hP : P = (shapeCast S1x128x128 (normed x0 x1 x2 x3 n) shapeCasts_S128x128_S1x128x128 : FVec F S1x128x128 .f32))
    (h : FilledTo g x0 x1 x2 x3 n e) :
    FilledTo g x0 x1 x2 x3 (n + 1) (View.write (Elt F) (tiles.access (Rect.unit (s := S4x128x4000) off ![1, 128, 128] inb)) e P Finset.univ) :=
  Filled.store h inb hoff P fun a b hb => by rw [hP]; exact stored_full x0 x1 x2 x3 n a b hb
/-- the store of the last tile, which fills the block. -/
theorem FilledTo.last {g : Fin 4} {e : Scr F} {off : Fin 3 → ℕ}
    (inb : ∀ a, off a + (![1, 128, 32] : Fin 3 → ℕ) a ≤ S4x128x4000.size a) (hoff : off = ![g.val, 0, 3968])
    (P : S1x128x32.Idx → Elt F .f32)
    (hP : P = (shapeCast S1x128x32 (extractStridedSlice S128x32 ![0, 0] (normed x0 x1 x2 x3 31) slices_S128x128_o0_0_S128x32) shapeCasts_S128x32_S1x128x32 : FVec F S1x128x32 .f32))
    (h : FilledTo g x0 x1 x2 x3 31 e) :
    Filled g (blockOut x0 x1 x2 x3) 4000 (View.write (Elt F) (tiles.access (Rect.unit (s := S4x128x4000) off ![1, 128, 32] inb)) e P Finset.univ) :=
  Filled.store h inb hoff P fun a b hb => by rw [hP]; exact stored_last x0 x1 x2 x3 a b hb
end Stores

end Cert.KernelIdeal.Behind
end
-- ==== Proof.KernelIdealBody.lean ====
/- The body's three runs: a point of the first four issues its copy; a later one first waits for the copy four points back; the last
   one also waits for the three copies before its own, and for its own. Each leaves the piece it writes holding the block's values. -/
module

public import proofs.«01_k».proof.Proof.KernelIdealTile

@[expose] public section

set_option maxRecDepth 16384

noncomputable section

namespace Cert.KernelIdeal.Behind

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

/-- A piece written whole with the block's values holds them. -/
theorem holds_of (c : Dev nD) (G : Res F c) (u : Fin 160) (V : Vec F S128x4000 .f32) (hG : (piece u).view.read (Elt F) G = V)
    (f : BufOf (F := F) c (piece u)) (w : S128x4000.Idx → Elt F .f32) (h : w = V) :
    Holds c G u ((piece u).view.writes (Elt F) f [⟨Rect.whole S128x4000, w⟩]) := by
  subst h
  show (piece u).view.read (Elt F) _ = _
  rw [hG]
  funext x
  have := View.read_writes_cons_emb (Val := Elt F) (v := (piece u).view) (f := f) (Rect.whole S128x4000) w [] x
  rwa [Rect.emb_whole_apply] at this

/-- A copy in flight that delivers what `G` has is the ring's. -/
theorem flight_intro (c : Dev nD) (G : Res F c) (g : Fin 4) (u : Fin 160) (f : BufOf (F := F) c (piece u)) (e : BufOf (F := F) c (tile g)) :
    Transfers.Flight countersEmb (c : Thread nD τ) (cellLoc g) default 65536 iprop(pieceAt c u f ∗ tileAt c g e)
      ⊢ (iprop(⌜Holds c G u f⌝ -∗ flight c G g u) : sProp 𝕄) := by
  iintro H %h
  iexists f, e
  isplitr
  · ipureintro; exact h
  iexact H
/-- A piece that was delivered is written. -/
theorem written_intro (c : Dev nD) (G : Res F c) (u : Fin 160) (f : BufOf (F := F) c (piece u)) (h : Holds c G u f) :
    pieceAt c u f ⊢ (written c G u : sProp 𝕄) := by
  iintro H
  iexists f
  isplitr
  · ipureintro; exact h
  iexact H

set_option sl_exec.resultNames true

set_option maxHeartbeats 1000000 in
/-- A point of the first four: its piece blank, its tile free. -/
theorem run_boot (c : Dev nD) (t : Fin cfg0.N) (G : Res F c)
    (arg2 : Memref sig .tc .vmem S1x128x4096 .f32) (harg2 : arg2.IsWhole) (arg3 : Memref sig .tc .vmem S1x128x512 .f32) (harg3 : arg3.IsWhole)
    (arg4 : Memref sig .tc .vmem S128x4 .f32) (harg4 : arg4.IsWhole) (arg5 : Memref sig .tc .vmem S128x128 .bf16) (harg5 : arg5.IsWhole)
    (x0 : Vec F S1x128x4096 .f32) (x1 : Vec F S1x128x512 .f32) (x2 : Vec F S128x4 .f32) (x3 : Vec F S128x128 .bf16)
    (hG : (piece (Ring.bk 160 t.val)).view.read (Elt F) G = blockOut x0 x1 x2 x3)
    (hc0 : ¬waits (grid0.coords t)) (hc1 : ¬drains (grid0.coords t)) :
    ∀ (W : Waits sig Unit) (K : PUnit → sProp 𝕄),
      iprop(owns (c : Thread nD τ) arg2 fullShare x0 ∗ owns (c : Thread nD τ) arg3 fullShare x1 ∗ owns (c : Thread nD τ) arg4 fullShare x2 ∗ owns (c : Thread nD τ) arg5 fullShare x3
          ∗ blank c (Ring.bk 160 t.val) ∗ idle c (Ring.sl 4 t.val) ∗ owes (c : Thread nD τ) 0 W
          ∗ (iprop(owns (c : Thread nD τ) arg2 fullShare x0 ∗ owns (c : Thread nD τ) arg3 fullShare x1 ∗ owns (c : Thread nD τ) arg4 fullShare x2 ∗ owns (c : Thread nD τ) arg5 fullShare x3
              ∗ flight c G (Ring.sl 4 t.val) (Ring.bk 160 t.val) ∗ (∃ W', owes (c : Thread nD τ) 0 W')) -∗ K ⟨⟩))
        ⊢ wp frame (wpE (defs₀ (F := F)) Variants.none c none) Set.univ
            (cc0_tmrpcen (grid0.coords t) arg2 harg2 arg3 harg3 arg4 harg4 arg5 harg5 (Memref.whole main_v65) (Memref.isWhole_whole _) tiles (Memref.isWhole_whole _) cc0_scratch1) K := by
  intro W K
  haveI : Fact (¬waits (grid0.coords t)) := ⟨hc0⟩
  haveI : Fact (¬drains (grid0.coords t)) := ⟨hc1⟩
  simp only [cc0_tmrpcen_eq_skeleton]; unfold cc0_tmrpcen_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton,
    k0_part13_eq_skeleton, k0_part14_eq_skeleton, k0_part15_eq_skeleton, k0_part16_eq_skeleton, k0_part17_eq_skeleton, k0_part18_eq_skeleton,
    k0_part19_eq_skeleton, k0_part20_eq_skeleton, k0_part21_eq_skeleton, k0_part22_eq_skeleton, k0_part23_eq_skeleton, k0_part24_eq_skeleton,
    k0_part25_eq_skeleton, k0_part26_eq_skeleton, k0_part27_eq_skeleton, k0_part28_eq_skeleton, k0_part29_eq_skeleton, k0_part30_eq_skeleton]
  unfold owns
  iintro ⟨⟨%f0, %hf0, H0⟩, ⟨%f1, %hf1, H1⟩, ⟨%f2, %hf2, H2⟩, ⟨%f3, %hf3, H3⟩, ⟨%fp, Hp⟩, ⟨Hq, ⟨%et, Ht⟩⟩, HW, Hk⟩
  obtain rfl := harg2.eq_unread hf0; obtain rfl := harg3.eq_unread hf1; obtain rfl := harg4.eq_unread hf2; obtain rfl := harg5.eq_unread hf3
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  have hV : blockOut x0 x1 x2 x3 = blockOut (arg2.view.read (Elt F) (harg2.unread x0)) (arg3.view.read (Elt F) (harg3.unread x1))
      (arg4.view.read (Elt F) (harg4.unread x2)) (arg5.view.read (Elt F) (harg5.unread x3)) := by simp only [Memref.IsWhole.read_unread]
  ihave HF := (flight_intro c G (Ring.sl 4 t.val) (Ring.bk 160 t.val)
    ((piece (Ring.bk 160 t.val)).view.writes (Elt F) fp [⟨Rect.whole S128x4000, run_boot.sl.dma105 c t arg2 harg2 arg3 harg3 arg4 harg4 arg5 harg5 x0 x1 x2 x3 et⟩])
    (run_boot.sl.Ht_w32 c t arg2 harg2 arg3 harg3 arg4 harg4 arg5 harg5 x0 x1 x2 x3 et)) $$ Hq
  isplitl [HF]
  · iapply HF
    ipureintro
    refine holds_of c G _ _ hG fp _ ?_
    rw [hV]
    refine Filled.read (e := run_boot.sl.Ht_w32 c t arg2 harg2 arg3 harg3 arg4 harg4 arg5 harg5 x0 x1 x2 x3 et) ?_
    refine FilledTo.last _ (storeOff t 3968) _ rfl ?_
    iterate 31 refine FilledTo.full _ (storeOff t _) _ rfl ?_
    exact filledTo_zero _ _
  iexists _; iexact HW

set_option maxHeartbeats 1000000 in
/-- A later point but the last: the copy four points back is awaited, its tile taken. -/
theorem run_mid (c : Dev nD) (t : Fin cfg0.N) (G : Res F c)
    (arg2 : Memref sig .tc .vmem S1x128x4096 .f32) (harg2 : arg2.IsWhole) (arg3 : Memref sig .tc .vmem S1x128x512 .f32) (harg3 : arg3.IsWhole)
    (arg4 : Memref sig .tc .vmem S128x4 .f32) (harg4 : arg4.IsWhole) (arg5 : Memref sig .tc .vmem S128x128 .bf16) (harg5 : arg5.IsWhole)
    (x0 : Vec F S1x128x4096 .f32) (x1 : Vec F S1x128x512 .f32) (x2 : Vec F S128x4 .f32) (x3 : Vec F S128x128 .bf16)
    (hG : (piece (Ring.bk 160 t.val)).view.read (Elt F) G = blockOut x0 x1 x2 x3)
    (hc0 : waits (grid0.coords t)) (hc1 : ¬drains (grid0.coords t)) :
    ∀ (W : Waits sig Unit) (K : PUnit → sProp 𝕄),
      iprop(owns (c : Thread nD τ) arg2 fullShare x0 ∗ owns (c : Thread nD τ) arg3 fullShare x1 ∗ owns (c : Thread nD τ) arg4 fullShare x2 ∗ owns (c : Thread nD τ) arg5 fullShare x3
          ∗ blank c (Ring.bk 160 t.val) ∗ flight c G (Ring.sl 4 t.val) (Ring.bk 160 (t.val - 4)) ∗ owes (c : Thread nD τ) 0 W
          ∗ (iprop(owns (c : Thread nD τ) arg2 fullShare x0 ∗ owns (c : Thread nD τ) arg3 fullShare x1 ∗ owns (c : Thread nD τ) arg4 fullShare x2 ∗ owns (c : Thread nD τ) arg5 fullShare x3
              ∗ written c G (Ring.bk 160 (t.val - 4)) ∗ flight c G (Ring.sl 4 t.val) (Ring.bk 160 t.val) ∗ (∃ W', owes (c : Thread nD τ) 0 W')) -∗ K ⟨⟩))
        ⊢ wp frame (wpE (defs₀ (F := F)) Variants.none c none) Set.univ
            (cc0_tmrpcen (grid0.coords t) arg2 harg2 arg3 harg3 arg4 harg4 arg5 harg5 (Memref.whole main_v65) (Memref.isWhole_whole _) tiles (Memref.isWhole_whole _) cc0_scratch1) K := by
  intro W K
  haveI : Fact (waits (grid0.coords t)) := ⟨hc0⟩
  haveI : Fact (¬drains (grid0.coords t)) := ⟨hc1⟩
  simp only [cc0_tmrpcen_eq_skeleton]; unfold cc0_tmrpcen_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton,
    k0_part13_eq_skeleton, k0_part14_eq_skeleton, k0_part15_eq_skeleton, k0_part16_eq_skeleton, k0_part17_eq_skeleton, k0_part18_eq_skeleton,
    k0_part19_eq_skeleton, k0_part20_eq_skeleton, k0_part21_eq_skeleton, k0_part22_eq_skeleton, k0_part23_eq_skeleton, k0_part24_eq_skeleton,
    k0_part25_eq_skeleton, k0_part26_eq_skeleton, k0_part27_eq_skeleton, k0_part28_eq_skeleton, k0_part29_eq_skeleton, k0_part30_eq_skeleton]
  unfold owns
  iintro ⟨⟨%f0, %hf0, H0⟩, ⟨%f1, %hf1, H1⟩, ⟨%f2, %hf2, H2⟩, ⟨%f3, %hf3, H3⟩, ⟨%fp, Hp⟩, ⟨%ff, %fe, %hff, HF⟩, HW, Hk⟩
  obtain rfl := harg2.eq_unread hf0; obtain rfl := harg3.eq_unread hf1; obtain rfl := harg4.eq_unread hf2; obtain rfl := harg5.eq_unread hf3
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  have hV : blockOut x0 x1 x2 x3 = blockOut (arg2.view.read (Elt F) (harg2.unread x0)) (arg3.view.read (Elt F) (harg3.unread x1))
      (arg4.view.read (Elt F) (harg4.unread x2)) (arg5.view.read (Elt F) (harg5.unread x3)) := by simp only [Memref.IsWhole.read_unread]
  isplitl [HF_dst]
  · iapply (written_intro c G (Ring.bk 160 (t.val - 4)) ff hff)
    iexact HF_dst
  ihave HI := (flight_intro c G (Ring.sl 4 t.val) (Ring.bk 160 t.val)
    ((piece (Ring.bk 160 t.val)).view.writes (Elt F) fp [⟨Rect.whole S128x4000, run_mid.sl.dma105 c t arg2 harg2 arg3 harg3 arg4 harg4 arg5 harg5 x0 x1 x2 x3 fe⟩])
    (run_mid.sl.HF_src_w32 c t arg2 harg2 arg3 harg3 arg4 harg4 arg5 harg5 x0 x1 x2 x3 fe)) $$ HF
  isplitl [HI]
  · iapply HI
    ipureintro
    refine holds_of c G _ _ hG fp _ ?_
    rw [hV]
    refine Filled.read (e := run_mid.sl.HF_src_w32 c t arg2 harg2 arg3 harg3 arg4 harg4 arg5 harg5 x0 x1 x2 x3 fe) ?_
    refine FilledTo.last _ (storeOff t 3968) _ rfl ?_
    iterate 31 refine FilledTo.full _ (storeOff t _) _ rfl ?_
    exact filledTo_zero _ _
  iexists _; iexact HW

set_option maxHeartbeats 1000000 in
/-- The last point: its own copy and the three before it are awaited too. -/
theorem run_last (c : Dev nD) (t : Fin cfg0.N) (G : Res F c)
    (arg2 : Memref sig .tc .vmem S1x128x4096 .f32) (harg2 : arg2.IsWhole) (arg3 : Memref sig .tc .vmem S1x128x512 .f32) (harg3 : arg3.IsWhole)
    (arg4 : Memref sig .tc .vmem S128x4 .f32) (harg4 : arg4.IsWhole) (arg5 : Memref sig .tc .vmem S128x128 .bf16) (harg5 : arg5.IsWhole)
    (x0 : Vec F S1x128x4096 .f32) (x1 : Vec F S1x128x512 .f32) (x2 : Vec F S128x4 .f32) (x3 : Vec F S128x128 .bf16)
    (hG : (piece (Ring.bk 160 t.val)).view.read (Elt F) G = blockOut x0 x1 x2 x3)
    (hc0 : waits (grid0.coords t)) (hc1 : drains (grid0.coords t)) :
    ∀ (W : Waits sig Unit) (K : PUnit → sProp 𝕄),
      iprop(owns (c : Thread nD τ) arg2 fullShare x0 ∗ owns (c : Thread nD τ) arg3 fullShare x1 ∗ owns (c : Thread nD τ) arg4 fullShare x2 ∗ owns (c : Thread nD τ) arg5 fullShare x3
          ∗ blank c (Ring.bk 160 t.val) ∗ flight c G (Ring.sl 4 t.val) (Ring.bk 160 (t.val - 4)) ∗ flight c G (Ring.sl 4 (t.val + 1)) (Ring.bk 160 (t.val - 3)) ∗ flight c G (Ring.sl 4 (t.val + 2)) (Ring.bk 160 (t.val - 2)) ∗ flight c G (Ring.sl 4 (t.val + 3)) (Ring.bk 160 (t.val - 1)) ∗ owes (c : Thread nD τ) 0 W
          ∗ (iprop(owns (c : Thread nD τ) arg2 fullShare x0 ∗ owns (c : Thread nD τ) arg3 fullShare x1 ∗ owns (c : Thread nD τ) arg4 fullShare x2 ∗ owns (c : Thread nD τ) arg5 fullShare x3
              ∗ written c G (Ring.bk 160 (t.val - 4)) ∗ written c G (Ring.bk 160 (t.val - 3)) ∗ written c G (Ring.bk 160 (t.val - 2)) ∗ written c G (Ring.bk 160 (t.val - 1)) ∗ written c G (Ring.bk 160 t.val) ∗ idle c (Ring.sl 4 t.val) ∗ idle c (Ring.sl 4 (t.val + 1)) ∗ idle c (Ring.sl 4 (t.val + 2)) ∗ idle c (Ring.sl 4 (t.val + 3)) ∗ (∃ W', owes (c : Thread nD τ) 0 W')) -∗ K ⟨⟩))
        ⊢ wp frame (wpE (defs₀ (F := F)) Variants.none c none) Set.univ
            (cc0_tmrpcen (grid0.coords t) arg2 harg2 arg3 harg3 arg4 harg4 arg5 harg5 (Memref.whole main_v65) (Memref.isWhole_whole _) tiles (Memref.isWhole_whole _) cc0_scratch1) K := by
  intro W K
  haveI : Fact (waits (grid0.coords t)) := ⟨hc0⟩
  haveI : Fact (drains (grid0.coords t)) := ⟨hc1⟩
  simp only [cc0_tmrpcen_eq_skeleton]; unfold cc0_tmrpcen_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton,
    k0_part13_eq_skeleton, k0_part14_eq_skeleton, k0_part15_eq_skeleton, k0_part16_eq_skeleton, k0_part17_eq_skeleton, k0_part18_eq_skeleton,
    k0_part19_eq_skeleton, k0_part20_eq_skeleton, k0_part21_eq_skeleton, k0_part22_eq_skeleton, k0_part23_eq_skeleton, k0_part24_eq_skeleton,
    k0_part25_eq_skeleton, k0_part26_eq_skeleton, k0_part27_eq_skeleton, k0_part28_eq_skeleton, k0_part29_eq_skeleton, k0_part30_eq_skeleton]
  unfold owns
  iintro ⟨⟨%f0, %hf0, H0⟩, ⟨%f1, %hf1, H1⟩, ⟨%f2, %hf2, H2⟩, ⟨%f3, %hf3, H3⟩, ⟨%fp, Hp⟩, ⟨%ff, %fe, %hff, HF⟩, ⟨%ff1, %fe1, %hff1, HI1⟩, ⟨%ff2, %fe2, %hff2, HI2⟩, ⟨%ff3, %fe3, %hff3, HI3⟩, HW, Hk⟩
  obtain rfl := harg2.eq_unread hf0; obtain rfl := harg3.eq_unread hf1; obtain rfl := harg4.eq_unread hf2; obtain rfl := harg5.eq_unread hf3
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  have hV : blockOut x0 x1 x2 x3 = blockOut (arg2.view.read (Elt F) (harg2.unread x0)) (arg3.view.read (Elt F) (harg3.unread x1))
      (arg4.view.read (Elt F) (harg4.unread x2)) (arg5.view.read (Elt F) (harg5.unread x3)) := by simp only [Memref.IsWhole.read_unread]
  have hP : Holds c G (Ring.bk 160 t.val)
      ((piece (Ring.bk 160 t.val)).view.writes (Elt F) fp [⟨Rect.whole S128x4000, run_last.sl.dma105 c t arg2 harg2 arg3 harg3 arg4 harg4 arg5 harg5 x0 x1 x2 x3 fe⟩]) := by
    refine holds_of c G _ _ hG fp _ ?_
    rw [hV]
    refine Filled.read (e := run_last.sl.HF_src_w32 c t arg2 harg2 arg3 harg3 arg4 harg4 arg5 harg5 x0 x1 x2 x3 fe) ?_
    refine FilledTo.last _ (storeOff t 3968) _ rfl ?_
    iterate 31 refine FilledTo.full _ (storeOff t _) _ rfl ?_
    exact filledTo_zero _ _
  isplitl [HF_dst]
  · iapply (written_intro c G (Ring.bk 160 (t.val - 4)) ff hff)
    iexact HF_dst
  isplitl [HI1_dst]
  · iapply (written_intro c G (Ring.bk 160 (t.val - 3)) ff1 hff1)
    iexact HI1_dst
  isplitl [HI2_dst]
  · iapply (written_intro c G (Ring.bk 160 (t.val - 2)) ff2 hff2)
    iexact HI2_dst
  isplitl [HI3_dst]
  · iapply (written_intro c G (Ring.bk 160 (t.val - 1)) ff3 hff3)
    iexact HI3_dst
  isplitl [Hp]
  · iapply (written_intro c G (Ring.bk 160 t.val) _ hP)
    iexact Hp
  isplitl [HF HF_src]
  · isplitl [HF]
    · iexact HF
    iexists _; iexact HF_src
  isplitl [HI1 HI1_src]
  · isplitl [HI1]
    · iexact HI1
    iexists _; iexact HI1_src
  isplitl [HI2 HI2_src]
  · isplitl [HI2]
    · iexact HI2
    iexists _; iexact HI2_src
  isplitl [HI3 HI3_src]
  · isplitl [HI3]
    · iexact HI3
    iexists _; iexact HI3_src
  iexists _; iexact HW

end Cert.KernelIdeal.Behind
end
-- ==== Proof.KernelIdealRun.lean ====
/- The launch of the kernel: the body's runs put together at every grid point, the ring as the invariant between points, and
   the whole program run: the arguments end as they were, every semaphore counter ends at zero, and the result holds, at piece
   `u`, the block the body computes at point `u`. -/
module

public import proofs.«01_k».proof.Proof.KernelIdealBody
public import Idealize.ShloMosaic.Lib.Claim

@[expose] public section

set_option maxRecDepth 16384

noncomputable section

namespace Cert.KernelIdeal.Behind

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The ring after its last step -/

section Drain
variable {M : Type} [URA M] (free : Fin 4 → sProp M) (behind : Fin 160 → sProp M)

/-- The last step hands back five pieces and the four groups: every piece is written and every group is free. -/
theorem ring_drained (t : ℕ) (ht : t = 159) :
    iprop((behind (Ring.bk 160 (t - 4)) ∗ behind (Ring.bk 160 (t - 3)) ∗ behind (Ring.bk 160 (t - 2)) ∗ behind (Ring.bk 160 (t - 1)) ∗ behind (Ring.bk 160 t)
          ∗ bigSep (Ring.behindSet 4 t) behind)
        ∗ free (Ring.sl 4 t) ∗ free (Ring.sl 4 (t + 1)) ∗ free (Ring.sl 4 (t + 2)) ∗ free (Ring.sl 4 (t + 3)))
      ⊢ Ring.AtBEnd free behind := by
  subst ht
  have b4 := Ring.bk_val (NB := 160) (show 159 - 4 < 160 by omega)
  have b3 := Ring.bk_val (NB := 160) (show 159 - 3 < 160 by omega)
  have b2 := Ring.bk_val (NB := 160) (show 159 - 2 < 160 by omega)
  have b1 := Ring.bk_val (NB := 160) (show 159 - 1 < 160 by omega)
  have b0 := Ring.bk_val (NB := 160) (show 159 < 160 by omega)
  have e : (Finset.univ : Finset (Fin 160)) = insert (Ring.bk 160 (159 - 4)) (insert (Ring.bk 160 (159 - 3)) (insert (Ring.bk 160 (159 - 2))
      (insert (Ring.bk 160 (159 - 1)) (insert (Ring.bk 160 159) (Ring.behindSet 4 159))))) := by
    ext u
    simp only [Finset.mem_univ, Finset.mem_insert, Ring.mem_behindSet, true_iff, Fin.ext_iff, b0, b1, b2, b3, b4]
    have := u.isLt; omega
  have n4 : Ring.bk 160 (159 - 4) ∉ insert (Ring.bk 160 (159 - 3)) (insert (Ring.bk 160 (159 - 2)) (insert (Ring.bk 160 (159 - 1)) (insert (Ring.bk 160 159) (Ring.behindSet 4 159)))) := by
    simp only [Finset.mem_insert, Ring.mem_behindSet, Fin.ext_iff, b0, b1, b2, b3, b4]; omega
  have n3 : Ring.bk 160 (159 - 3) ∉ insert (Ring.bk 160 (159 - 2)) (insert (Ring.bk 160 (159 - 1)) (insert (Ring.bk 160 159) (Ring.behindSet 4 159))) := by
    simp only [Finset.mem_insert, Ring.mem_behindSet, Fin.ext_iff, b0, b1, b2, b3]; omega
  have n2 : Ring.bk 160 (159 - 2) ∉ insert (Ring.bk 160 (159 - 1)) (insert (Ring.bk 160 159) (Ring.behindSet 4 159)) := by
    simp only [Finset.mem_insert, Ring.mem_behindSet, Fin.ext_iff, b0, b1, b2]; omega
  have n1 : Ring.bk 160 (159 - 1) ∉ insert (Ring.bk 160 159) (Ring.behindSet 4 159) := by
    simp only [Finset.mem_insert, Ring.mem_behindSet, Fin.ext_iff, b0, b1]; omega
  have n0 : Ring.bk 160 159 ∉ Ring.behindSet (NB := 160) 4 159 := by
    simp only [Ring.mem_behindSet, b0]; omega
  unfold Ring.AtBEnd
  rw [e, Ring.bigSep_put n4, Ring.bigSep_put n3, Ring.bigSep_put n2, Ring.bigSep_put n1, Ring.bigSep_put n0, roles_eq,
    show Ring.sl 4 159 = (3 : Fin 4) from by decide, show Ring.sl 4 (159 + 1) = (0 : Fin 4) from by decide,
    show Ring.sl 4 (159 + 2) = (1 : Fin 4) from by decide, show Ring.sl 4 (159 + 3) = (2 : Fin 4) from by decide]
  iintro ⟨HB, H3, H0, H1, H2⟩
  isplitl [HB]; · iexact HB
  isplitl [H0]; · iexact H0
  isplitl [H1]; · iexact H1
  isplitl [H2]; · iexact H2
  iexact H3

end Drain

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-! ## What the result holds -/

/-- The grid point that writes an index of the result. -/
def pointOf (i : S16x10x128x4000.Idx) : Fin cfg0.N :=
  ⟨10 * (i 0).val + (i 1).val, by
    have h0 := (i 0).isLt; have h1 := (i 1).isLt
    have e0 : S16x10x128x4000.size 0 = 16 := rfl
    have e1 : S16x10x128x4000.size 1 = 10 := rfl
    rw [show cfg0.N = 160 from N_0]; omega⟩
/-- The result: at an index, the block of its point there. -/
def output (c : Dev nD) : Res F c := fun i : S16x10x128x4000.Idx =>
  blockOut (iblk m c 0 (pointOf i)) (iblk m c 1 (pointOf i)) (iblk m c 2 (pointOf i)) (iblk m c 3 (pointOf i)) (ix2 (i 2) (i 3))

/-- Piece `t` of it is point `t`'s block. -/
theorem output_piece (c : Dev nD) (t : Fin cfg0.N) :
    (piece (Ring.bk 160 t.val)).view.read (Elt F) (output m c) = blockOut (iblk m c 0 t) (iblk m c 1 t) (iblk m c 2 t) (iblk m c 3 t) := by
  have hN : t.val < 160 := lt_of_lt_of_eq t.isLt (show cfg0.N = 160 from N_0)
  funext j
  obtain ⟨a, b, rfl⟩ : ∃ (a : Fin 128) (b : Fin 4000), j = ix2 a b := ⟨j 0, j 1, (ix2_eta j).symm⟩
  have hu : (Ring.bk 160 t.val).val = t.val := Ring.bk_val hN
  generalize Ring.bk 160 t.val = u at hu
  have e : (piece u).view.read (Elt F) (output m c) (ix2 a b)
      = output m c (ix4 (n0 := 16) (n1 := 10) (n2 := 128) (n3 := 4000) ⟨u.val / 10, by omega⟩ ⟨u.val % 10, by omega⟩ a b) := by
    unfold piece
    rw [Memref.read_squeeze_slice (hc := (by decide : S1x1x128x4000.ShapeCasts S128x4000)), Idealize.ShloMosaic.shapeCast_apply _ _ _ (ix4 (n0 := 1) (n1 := 1) (n2 := 128) (n3 := 4000) 0 0 a b) (by simp [Shape.rowMajor_val_two, Shape.rowMajor_val_four])]
    show output m c ((Rect.unit (s := S16x10x128x4000) ![u.val / 10, u.val % 10, 0, 0] S1x1x128x4000.size (piece_inb u)).idx (ix4 (n0 := 1) (n1 := 1) (n2 := 128) (n3 := 4000) 0 0 a b)) = _
    congr 1
    funext i
    apply Fin.ext
    fin_cases i <;> simp
  rw [e]
  have hp : pointOf (ix4 (n0 := 16) (n1 := 10) (n2 := 128) (n3 := 4000) ⟨u.val / 10, by omega⟩ ⟨u.val % 10, by omega⟩ a b) = t := by
    apply Fin.ext
    show 10 * (u.val / 10) + u.val % 10 = t.val
    omega
  unfold output
  rw [hp]
  rfl

/-! ## The proof data of the pipeline -/

set_option maxHeartbeats 800000 in
/-- The program up to the region. -/
theorem main_prefix (𝒱₀ : Variants) : Pipeline.HMain (Ix := Unit) (Name := ℕ) (U := Pipeline.UD sig nD τ) (Lvl := ℕ) cfgs 0 defs₀ 𝒱₀ m (main (F := F)) (V m) :=
  Pipeline.hmain_prefixes cfgs 0 defs₀ 𝒱₀ m main [hostOps0, hostOps0_1, hostOps0_2, hostOps0_3] (by simp only [List.Forall]; exact ⟨hostOps0_sub, hostOps0_1_sub, hostOps0_2_sub, hostOps0_3_sub⟩)
    (by simp only [List.Forall]; exact ⟨hostOps0_fresh, hostOps0_1_fresh, hostOps0_2_fresh, hostOps0_3_fresh⟩) main_chain

/-- Between points: the generator register, the ring, and what of the scratch no tile takes. -/
def between (c : Dev nD) (k : ℕ) : sProp 𝕄 := iprop((∃ r, prngReg c r) ∗ ringAt c (output m c) k ∗ tileSpare c)

/-- The four inputs staged and left as they are, the ring between points, nothing owed. -/
def data (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
  Φ t := between m c t.val
  q _ := fullShare
  owed _ := 0

theorem data_A (c : Dev nD) (w : Fin cfg0.W) : (data m 0 c).A w = V m c (Pipeline.arrRef spec0 w) := by
  dsimp only [data]
theorem data_start (c : Dev nD) (t : Fin cfg0.N) : (data m 0 c).Φ t.castSucc = between m c t.val := by
  dsimp only [data]; simp only [Fin.coe_castSucc]
theorem data_end (c : Dev nD) (t : Fin cfg0.N) : (data m 0 c).Φ t.succ = between m c (t.val + 1) := by
  dsimp only [data]; simp only [Fin.val_succ]

theorem left_0 (c : Dev nD) (t : Fin cfg0.N) : (data m 0 c).after 0 t = iblk m c 0 t := by dsimp only [data]
theorem left_1 (c : Dev nD) (t : Fin cfg0.N) : (data m 0 c).after 1 t = iblk m c 1 t := by dsimp only [data]
theorem left_2 (c : Dev nD) (t : Fin cfg0.N) : (data m 0 c).after 2 t = iblk m c 2 t := by dsimp only [data]
theorem left_3 (c : Dev nD) (t : Fin cfg0.N) : (data m 0 c).after 3 t = iblk m c 3 t := by dsimp only [data]

/-- An input's staging buffer holds its block at every point. -/
theorem found_0 (c : Dev nD) (t : Fin cfg0.N) (d) : (data m 0 c).before 0 t d = iblk m c 0 t :=
  ((data m 0 c).before_in_eq_fetched 0 rfl (fun _ => rfl) (fun _ _ _ => rfl) (fun t => by rw [left_0]; unfold Dat.blockOf iblk; rw [data_A]; try rfl) t d).trans
    (by unfold Dat.fetched Dat.blockOf iblk; rw [data_A]; try rfl)
theorem found_1 (c : Dev nD) (t : Fin cfg0.N) (d) : (data m 0 c).before 1 t d = iblk m c 1 t :=
  ((data m 0 c).before_in_eq_fetched 1 rfl (fun _ => rfl) (fun _ _ _ => rfl) (fun t => by rw [left_1]; unfold Dat.blockOf iblk; rw [data_A]; try rfl) t d).trans
    (by unfold Dat.fetched Dat.blockOf iblk; rw [data_A]; try rfl)
theorem found_2 (c : Dev nD) (t : Fin cfg0.N) (d) : (data m 0 c).before 2 t d = iblk m c 2 t :=
  ((data m 0 c).before_in_eq_fetched 2 rfl (fun _ => rfl) (fun _ _ _ => rfl) (fun t => by rw [left_2]; unfold Dat.blockOf iblk; rw [data_A]; try rfl) t d).trans
    (by unfold Dat.fetched Dat.blockOf iblk; rw [data_A]; try rfl)
theorem found_3 (c : Dev nD) (t : Fin cfg0.N) (d) : (data m 0 c).before 3 t d = iblk m c 3 t :=
  ((data m 0 c).before_in_eq_fetched 3 rfl (fun _ => rfl) (fun _ _ _ => rfl) (fun t => by rw [left_3]; unfold Dat.blockOf iblk; rw [data_A]; try rfl) t d).trans
    (by unfold Dat.fetched Dat.blockOf iblk; rw [data_A]; try rfl)

/-! ## The body at any point -/

/-- What the body is called with, -/
def bodyPre (c : Dev nD) (t : Fin cfg0.N) : sProp 𝕄 :=
  iprop((data m 0 c).Φ t.castSucc ∗ (data m 0 c).owesAt () t.castSucc
    ∗ (∃ d, owns (c : Thread nD τ) (win0_0.stage (cfg0.slots t 0)) fullShare ((data m 0 c).before 0 t d))
    ∗ (∃ d, owns (c : Thread nD τ) (win0_1.stage (cfg0.slots t 1)) fullShare ((data m 0 c).before 1 t d))
    ∗ (∃ d, owns (c : Thread nD τ) (win0_2.stage (cfg0.slots t 2)) fullShare ((data m 0 c).before 2 t d))
    ∗ (∃ d, owns (c : Thread nD τ) (win0_3.stage (cfg0.slots t 3)) fullShare ((data m 0 c).before 3 t d)))
/-- and what it returns. -/
def bodyPost (c : Dev nD) (t : Fin cfg0.N) : sProp 𝕄 :=
  iprop((data m 0 c).Φ t.succ ∗ (data m 0 c).owesAt () t.succ
    ∗ owns (c : Thread nD τ) (win0_0.stage (cfg0.slots t 0)) fullShare ((data m 0 c).after 0 t)
    ∗ owns (c : Thread nD τ) (win0_1.stage (cfg0.slots t 1)) fullShare ((data m 0 c).after 1 t)
    ∗ owns (c : Thread nD τ) (win0_2.stage (cfg0.slots t 2)) fullShare ((data m 0 c).after 2 t)
    ∗ owns (c : Thread nD τ) (win0_3.stage (cfg0.slots t 3)) fullShare ((data m 0 c).after 3 t))

set_option maxHeartbeats 1200000 in
/-- The body at a point, by the three cases of its conditions. -/
theorem body_sound (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [found_0, found_1, found_2, found_3]
  rw [left_0, left_1, left_2, left_3]
  rw [data_start m c t, data_end m c t]
  unfold Dat.owesAt Pipeline.owesWithin
  rw [show (data m 0 c).owed t.castSucc = 0 from rfl, show (data m 0 c).owed t.succ = 0 from rfl]
  unfold between ringAt
  have hN : t.val < 160 := lt_of_lt_of_eq t.isLt (show cfg0.N = 160 from N_0)
  by_cases h0 : 4 ≤ t.val
  · by_cases h1 : t.val = 159
    · rw [Ring.AtBΦ_lt _ _ _ _ _ t.val (by omega), ring_open _ _ _ _ t.val hN, Ring.AtBΦ_ge _ _ _ _ _ (t.val + 1) (by omega), role_flight _ _ t.val h0 0]
      unfold rest3
      rw [role_flight _ _ t.val h0 1, role_flight _ _ t.val h0 2, role_flight _ _ t.val h0 3,
        show t.val + (0 : Fin 4).val = t.val from rfl, show t.val + (1 : Fin 4).val = t.val + 1 from rfl,
        show t.val + (2 : Fin 4).val = t.val + 2 from rfl, show t.val + (3 : Fin 4).val = t.val + 3 from rfl,
        show t.val + 1 - 4 = t.val - 3 by omega, show t.val + 2 - 4 = t.val - 2 by omega, show t.val + 3 - 4 = t.val - 1 by omega]
      iintro ⟨⟨Hg, ⟨⟨⟨Hp, -⟩, HB, HF, HF1, HF2, HF3⟩, HTsp⟩⟩, ⟨%W, -, HW⟩, ⟨%d0, H0⟩, ⟨%d1, H1⟩, ⟨%d2, H2⟩, ⟨%d3, H3⟩⟩
      iapply ((run_last c t (output m c) _ _ _ _ _ _ _ _ (iblk m c 0 t) (iblk m c 1 t) (iblk m c 2 t) (iblk m c 3 t) (output_piece m c t) ((waits_iff t).mpr h0) ((drains_iff t).mpr h1)) W _)
      isplitl [H0]; · iexact H0
      isplitl [H1]; · iexact H1
      isplitl [H2]; · iexact H2
      isplitl [H3]; · iexact H3
      isplitl [Hp]; · iexact Hp
      isplitl [HF]; · iexact HF
      isplitl [HF1]; · iexact HF1
      isplitl [HF2]; · iexact HF2
      isplitl [HF3]; · iexact HF3
      isplitl [HW]; · iexact HW
      iintro ⟨H0, H1, H2, H3, B4, B3, B2, B1, B0, I0, I1, I2, I3, ⟨%W', HW'⟩⟩
      isplitl [Hg HB HTsp B4 B3 B2 B1 B0 I0 I1 I2 I3]
      · isplitl [Hg]; · iexact Hg
        isplitl [HB B4 B3 B2 B1 B0 I0 I1 I2 I3]
        · iapply (ring_drained (idle c) (written c (output m c)) t.val h1)
          isplitl [HB B4 B3 B2 B1 B0]
          · isplitl [B4]; · iexact B4
            isplitl [B3]; · iexact B3
            isplitl [B2]; · iexact B2
            isplitl [B1]; · iexact B1
            isplitl [B0]; · iexact B0
            iexact HB
          isplitl [I0]; · iexact I0
          isplitl [I1]; · iexact I1
          isplitl [I2]; · iexact I2
          iexact I3
        iexact HTsp
      isplitl [HW']
      · iexists W'; isplitr; · ipureintro; exact fun _ _ => Or.inl trivial
        iexact HW'
      isplitl [H0]; · iexact H0
      isplitl [H1]; · iexact H1
      isplitl [H2]; · iexact H2
      iexact H3
    · rw [Ring.AtBΦ_lt _ _ _ _ _ t.val (by omega), ring_open _ _ _ _ t.val hN, Ring.AtBΦ_lt _ _ _ _ _ (t.val + 1) (by omega),
        ring_next _ _ _ _ t.val h0 hN, role_flight _ _ t.val h0 0, show t.val + (0 : Fin 4).val = t.val from rfl]
      iintro ⟨⟨Hg, ⟨⟨⟨Hp, HA⟩, HB, HF, HR⟩, HTsp⟩⟩, ⟨%W, -, HW⟩, ⟨%d0, H0⟩, ⟨%d1, H1⟩, ⟨%d2, H2⟩, ⟨%d3, H3⟩⟩
      iapply ((run_mid c t (output m c) _ _ _ _ _ _ _ _ (iblk m c 0 t) (iblk m c 1 t) (iblk m c 2 t) (iblk m c 3 t) (output_piece m c t) ((waits_iff t).mpr h0) (fun h => h1 ((drains_iff t).mp h))) W _)
      isplitl [H0]; · iexact H0
      isplitl [H1]; · iexact H1
      isplitl [H2]; · iexact H2
      isplitl [H3]; · iexact H3
      isplitl [Hp]; · iexact Hp
      isplitl [HF]; · iexact HF
      isplitl [HW]; · iexact HW
      iintro ⟨H0, H1, H2, H3, B4, HF, ⟨%W', HW'⟩⟩
      isplitl [Hg HA HB HTsp B4 HF HR]
      · isplitl [Hg]; · iexact Hg
        isplitl [HA HB B4 HF HR]
        · isplitl [HA]; · iexact HA
          isplitl [B4 HB]
          · isplitl [B4]; · iexact B4
            iexact HB
          isplitl [HR]; · iexact HR
          iexact HF
        iexact HTsp
      isplitl [HW']
      · iexists W'; isplitr; · ipureintro; exact fun _ _ => Or.inl trivial
        iexact HW'
      isplitl [H0]; · iexact H0
      isplitl [H1]; · iexact H1
      isplitl [H2]; · iexact H2
      iexact H3
  · have h4 : t.val < 4 := by omega
    rw [Ring.AtBΦ_lt _ _ _ _ _ t.val (by omega), ring_open _ _ _ _ t.val hN, Ring.AtBΦ_lt _ _ _ _ _ (t.val + 1) (by omega),
      ring_next_boot _ _ _ _ t.val h4, role_free _ _ t.val h4]
    iintro ⟨⟨Hg, ⟨⟨⟨Hp, HA⟩, HB, HF, HR⟩, HTsp⟩⟩, ⟨%W, -, HW⟩, ⟨%d0, H0⟩, ⟨%d1, H1⟩, ⟨%d2, H2⟩, ⟨%d3, H3⟩⟩
    iapply ((run_boot c t (output m c) _ _ _ _ _ _ _ _ (iblk m c 0 t) (iblk m c 1 t) (iblk m c 2 t) (iblk m c 3 t) (output_piece m c t) (fun h => h0 ((waits_iff t).mp h)) (fun h => absurd ((drains_iff t).mp h) (by omega))) W _)
    isplitl [H0]; · iexact H0
    isplitl [H1]; · iexact H1
    isplitl [H2]; · iexact H2
    isplitl [H3]; · iexact H3
    isplitl [Hp]; · iexact Hp
    isplitl [HF]; · iexact HF
    isplitl [HW]; · iexact HW
    iintro ⟨H0, H1, H2, H3, HF, ⟨%W', HW'⟩⟩
    isplitl [Hg HA HB HTsp HF HR]
    · isplitl [Hg]; · iexact Hg
      isplitl [HA HB HF HR]
      · isplitl [HA]; · iexact HA
        isplitl [HB]; · iexact HB
        isplitl [HR]; · iexact HR
        iexact HF
      iexact HTsp
    isplitl [HW']
    · iexists W'; isplitr; · ipureintro; exact fun _ _ => Or.inl trivial
      iexact HW'
    isplitl [H0]; · iexact H0
    isplitl [H1]; · iexact H1
    isplitl [H2]; · iexact H2
    iexact H3

theorem body_row (t : Fin cfg0.N) : defs₀ (F := F) .tc cfg0.body (cfg0.bodyArgs t (cfg0.slots t)) = bodyAt0 t := by
  unfold defs₀; rw [Defs.onTc_tc]

/-- The body at every point, as the pipeline asks for it. -/
theorem body_always (c : Dev nD) : BodyObligation (data (F := F) m 0 c) (defs₀ (F := F)) Variants.none () Set.univ := fun t => by
  rw [bigSep_W0, bigSep_W0, body_row]
  exact triple_restated (body_sound m c t) rfl .rfl fun _ => .rfl

/-! ## The launch -/

/-- The body's own cells, and the buffer it writes by its own copies. -/
abbrev ownCells : Fin 4 → SemLoc sig := fun j => (![SemLoc.dma 6, SemLoc.dma 7, SemLoc.dma 8, SemLoc.dma 9] : Fin 4 → SemLoc sig) j
theorem ownCells_facts : Pipeline.OwnSemFacts spec0 ownCells := by decide
theorem ownCells_eq (c : Dev nD) :
    (Pipeline.ownSems0 (Ix := Unit) (Name := ℕ) (U := Pipeline.UD sig nD τ) (Lvl := ℕ) (Val := Elt F) (τ := τ) ownCells c : sProp 𝕄)
      = iprop(semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0) := by
  rw [Pipeline.ownSems0_eq_of_list c ownCells [0, 1, 2, 3] (by decide) (by decide)]; rfl
def copied : Finset (Ref sig .tc) := {main_v65}
theorem copied_sub : copied ⊆ Pipeline.restRefs sig spec0 \ ∅ := by decide

/-- What the launch has: the arrays as the region finds them, the result at `output`. -/
def final (c : Dev nD) (b : Ref sig .tc) : Buf (Elt F) ((c : Thread nD τ).loc b) := Function.update (V m c) main_v65 (output m c) b
theorem final_result (c : Dev nD) : final m c main_v65 = output m c := by unfold final; rw [Function.update_self]

theorem copied_eq (c : Dev nD) (W : (b : Ref sig .tc) → Buf (Elt F) ((c : Thread nD τ).loc b)) :
    (Pipeline.routed copied c W : sProp 𝕄) = iprop(((c : Thread nD τ).loc main_v65) ↦{fullShare} W main_v65) := by
  unfold Pipeline.routed; rw [BI.bigSep_eq_bigSepL_of_eq [main_v65] (by decide) (by decide)]; rfl

/-- What the region is entered with is the invariant before the first point, -/
theorem enter (c : Dev nD) : Pipeline.ΦDRG ownCells spec0 ∅ copied (V m) (V m) c ⊢ (data m 0 c).Φ 0 := by
  rw [Pipeline.ΦDRG_eq, scopedRest0_eq, ownCells_eq, copied_eq, show (data m 0 c).Φ 0 = between m c 0 from rfl]
  unfold between
  iintro ⟨HS, Hg, HQ, -, Ho⟩
  isplitl [Hg]; · iexact Hg
  iapply (ring_in (F := F) c (output m c) (V m c main_v65))
  isplitl [HS]
  · simp only [tiles, owns_whole]; iexact HS
  isplitl [HQ]; · iexact HQ
  iexact Ho
/-- and the invariant after the last point is what it is left with. -/
theorem leave (c : Dev nD) : (data m 0 c).Φ (Fin.last cfg0.N) ⊢ Pipeline.ΦDRG ownCells spec0 ∅ copied (V m) (final m) c := by
  rw [Pipeline.ΦDRG_eq, scopedRest0_eq, ownCells_eq, copied_eq, final_result, show (data m 0 c).Φ (Fin.last cfg0.N) = between m c grid0.N from rfl, bigSep_empty]
  unfold between
  rw [show grid0.N = 160 by rw [N_0]]
  iintro ⟨Hg, HR⟩
  ihave HX := (ring_out (F := F) c (output m c)) $$ HR
  icases HX with ⟨HS, HQ, Ho⟩
  isplitl [HS]
  · simp only [tiles, owns_whole]; iexact HS
  isplitl [Hg]; · iexact Hg
  isplitl [HQ]; · iexact HQ
  isplitr; · iempintro
  iexact Ho

set_option backward.isDefEq.respectTransparency.types false in
/-- The whole program, run: what every buffer ends with, and every counter at zero. -/
theorem run_whole : θ_run defs (onTc (τ := τ) (main (F := F))) (s₀ m ρ) (fun r => (Pipeline.FramePostRG cfgs (data m) 0 copied (V m) (final m)) r ∧ r.2.sem = fun _ => 0) :=
  Pipeline.θ_run_frame_dmaRG (Q' := _) cfgs (data m) (0 : Fin 1) launch0 ownCells defs₀ Variants.none ownCells_facts ∅ copied (by simp) copied_sub m ρ main
    (hbody := fun c => (body_always m c).loose) (hshare := fun c => (data m 0 c).share_full fun _ => rfl)
    (howed := fun _ _ => rfl) (V := V m) (hmain := main_prefix m Variants.none) (hA := data_A m) (G := final m)
    (hin := enter m) (hout := leave m)

/-- At every final state the arguments are as launched, every counter is zero, and the result is `output`. -/
theorem run_value : θ_run defs (onTc (τ := τ) (main (F := F))) ⟨m, fun _ => 0, ρ⟩ (fun r => ((∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0)
      ∧ ∀ c : Dev nD, r.2.mem ((c.tc : Thread nD τ).loc main_v65) = output m c) :=
  (θ_run defs _ _).mono (fun r h => ⟨⟨fun c => ⟨
      ((h.1.1 c).2 main_arg0 (Finset.mem_sdiff.mpr ⟨Pipeline.mem_restRefs_of main_arg0 (by decide) (by decide), by decide⟩)).trans (V_main_arg0 m c),
      ((h.1.1 c).2 main_arg1 (Finset.mem_sdiff.mpr ⟨Pipeline.mem_restRefs_of main_arg1 (by decide) (by decide), by decide⟩)).trans (V_main_arg1 m c),
      ((h.1.1 c).2 main_arg2 (Finset.mem_sdiff.mpr ⟨Pipeline.mem_restRefs_of main_arg2 (by decide) (by decide), by decide⟩)).trans (V_main_arg2 m c),
      ((h.1.1 c).2 main_arg3 (Finset.mem_sdiff.mpr ⟨Pipeline.mem_restRefs_of main_arg3 (by decide) (by decide), by decide⟩)).trans (V_main_arg3 m c),
      ((h.1.1 c).2 main_arg4 (Finset.mem_sdiff.mpr ⟨Pipeline.mem_restRefs_of main_arg4 (by decide) (by decide), by decide⟩)).trans (V_main_arg4 m c)⟩, h.2⟩,
    fun c => (h.1.2 c main_v65 (by decide)).trans (final_result m c)⟩) (run_whole m ρ)

end Cert.KernelIdeal.Behind

end
-- ==== Proof.ReferenceRun.lean ====
/- The reference's run: its loop's trips leave the buffers made before it alone, the arguments end as they were, and the
   result is what the operations after the loop make of the loop's accumulator and of those buffers. -/
module

public import proofs.«01_k».proof.Proof.Gen.ReferenceIdeal.Run
public import Idealize.ShloMosaic.Lib.Quiescent
public import Idealize.ShloMosaic.Lib.Claim

@[expose] public section

noncomputable section

namespace Cert.ReferenceIdeal.Scan

open Cert.ReferenceIdeal.Gen Cert.ReferenceIdeal.Value
open Idealize.ShloMosaic Idealize.ShloMosaic.TcCoe Idealize.ShloMosaic.StableHlo
open Idealize.SL Idealize.SL.Sem

variable {F : FTy → Type} [FloatOps F]
variable (m : (ℓ : Loc nD τ sig) → Buf (Elt F) ℓ) (ρ : Dev nD → PrngReg)

/-! ## What the loop leaves alone -/

/-- What the loop writes. -/
abbrev loopWrites : List (Ref sig .tc) := condOps_W ++ while0Ops0_W ++ while0Ops0_1_W ++ while0Ops0_2_W ++ while0Ops0_3_W

theorem trip_keeps (X : Valuation τ sig (Elt F)) (r : Ref sig .tc) (h : r ∉ loopWrites) :
    afterL bodyI (after condOps X) (Proc.devRef .tc r) = X (Proc.devRef .tc r) := by
  simp only [loopWrites, List.mem_append, not_or] at h
  simp only [afterL_cons, afterL_nil]
  rw [after_of_writes_sub while0Ops0_3 _ while0Ops0_3_writes h.2, after_of_writes_sub while0Ops0_2 _ while0Ops0_2_writes h.1.2,
    after_of_writes_sub while0Ops0_1 _ while0Ops0_1_writes h.1.1.2, after_of_writes_sub while0Ops0 _ while0Ops0_writes h.1.1.1.2,
    after_of_writes_sub condOps _ condOps_writes h.1.1.1.1]

/-- A buffer the loop does not write is as it was at the loop's entry. -/
theorem loop_keeps (c : Dev nD) (r : Ref sig .tc) (h : r ∉ loopWrites) : ∀ k, atK m k c (Proc.devRef .tc r) = entryContents preI m c (Proc.devRef .tc r)
  | 0 => rfl
  | k + 1 => (trip_keeps (atK m k c) r h).trans (loop_keeps c r h k)

/-- Every buffer when the loop is left. -/
abbrev left (c : Dev nD) : Valuation τ sig (Elt F) := after condOps (atK m 3999 c)
theorem left_keeps (c : Dev nD) (r : Ref sig .tc) (h : r ∉ loopWrites) : left m c (Proc.devRef .tc r) = entryContents preI m c (Proc.devRef .tc r) := by
  have h' := h
  simp only [loopWrites, List.mem_append, not_or] at h'
  exact (after_of_writes_sub condOps _ condOps_writes h'.1.1.1.1).trans (loop_keeps m c r h 3999)

/-! ## The arguments -/

/-- What the operations after the loop write. -/
abbrev tailWrites : List (Ref sig .tc) := [main_v15, main_v16, main_v17, main_v18, main_cst_0, main_v19, main_cst_1, main_v20, main_v21, main_v22, main_v23,
  main_v24, main_v25, main_v26, main_v27, main_v28, main_v29, main_v30, main_v31, main_v32, main_v33, main_v34, main_v35, main_v36, main_v37, main_v38,
  main_v39, main_v40, main_v41, main_v42]
theorem tail_writes : (hostOps0_1 : List (HloOp τ sig (Elt F))).Forall fun op => op.writes ⊆ (tailWrites.map (Proc.devRef (τ := τ) .tc)).toFinset :=
  StableHlo.forall_writes_sub_of_map rfl

/-- A buffer no operation writes ends as launched. -/
theorem untouched (c : Dev nD) (r : Ref sig .tc) (h0 : r ∉ hostOps0_W) (h1 : r ∉ loopWrites) (h2 : r ∉ tailWrites) :
    finalContents condOps preI bodyI postI 3999 m c (Proc.devRef .tc r) = m (c, Proc.devRef .tc r) := by
  show after hostOps0_1 (left m c) (Proc.devRef .tc r) = _
  rw [after_of_writes_sub hostOps0_1 _ tail_writes h2, left_keeps m c r h1]
  show after hostOps0 _ (Proc.devRef .tc r) = _
  rw [after_of_writes_sub hostOps0 _ hostOps0_writes h0]

/-- The reference runs; its arguments end as launched, its counters at zero, and its result as its operations make it. -/
theorem run_value : θ_run defs (onTc (τ := τ) (main (F := F))) ⟨m, fun _ => 0, ρ⟩ (fun r => ((∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0)
      ∧ ∀ c : Dev nD, r.2.mem ((c.tc : Thread nD τ).loc main_v42) = after hostOps0_1 (left m c) (Proc.devRef .tc main_v42)) :=
  (θ_run defs _ _).mono (fun r h => ⟨⟨fun c => ⟨
      (h c main_arg0 (by decide)).trans (untouched m c main_arg0 (by decide) (by decide) (by decide)),
      (h c main_arg1 (by decide)).trans (untouched m c main_arg1 (by decide) (by decide) (by decide)),
      (h c main_arg2 (by decide)).trans (untouched m c main_arg2 (by decide) (by decide) (by decide)),
      (h c main_arg3 (by decide)).trans (untouched m c main_arg3 (by decide) (by decide) (by decide)),
      (h c main_arg4 (by decide)).trans (untouched m c main_arg4 (by decide) (by decide) (by decide))⟩,
      sem_eq_zero_of_no_sems rfl r.2⟩, fun c => h c main_v42 (by decide)⟩) (run_fold m ρ)

end Cert.ReferenceIdeal.Scan

end
-- ==== Proof.ScanMath.lean ====
/- The mathematics of the blocked scan over the reals: a moving average of decay `a`, computed tile by tile of 128 lanes, each
   tile in two halves of 64 lanes whose weighted sums are joined, is the moving average computed sample by sample. -/
module

public import Mathlib.Algebra.BigOperators.Fin
public import Mathlib.Algebra.BigOperators.Intervals
public import Mathlib.Data.Real.Basic
public import Mathlib.Tactic.Ring
public import Mathlib.Tactic.FieldSimp

@[expose] public section

noncomputable section

namespace Cert.Scan

/-- The moving average of decay `a` of the samples `w m, w (m+1), …`, started at `w m`. -/
def run (a : ℝ) (w : ℕ → ℝ) (m : ℕ) : ℕ → ℝ
  | 0 => w m
  | l + 1 => a * run a w m l + w (m + l + 1)

/-- The moving average of `x`, started at its first sample: a later sample counts `s`. -/
def ema (a s : ℝ) (x : ℕ → ℝ) : ℕ → ℝ
  | 0 => x 0
  | t + 1 => a * ema a s x t + s * x (t + 1)

/-- What a sample adds to the moving average. -/
def weighted (s : ℝ) (x : ℕ → ℝ) (t : ℕ) : ℝ := if t = 0 then x 0 else x t * s

theorem ema_eq_run (a s : ℝ) (x : ℕ → ℝ) (t : ℕ) : ema a s x t = run a (weighted s x) 0 t := by
  induction t with
  | zero => simp [ema, run, weighted]
  | succ t ih => simp only [ema, run, ih, weighted]; simp; ring

/-- A run goes on from any of its lanes: the later samples' own run, and the earlier value decayed. -/
theorem run_split (a : ℝ) (w : ℕ → ℝ) (m k l : ℕ) :
    run a w m (k + 1 + l) = run a w (m + k + 1) l + a ^ (l + 1) * run a w m k := by
  induction l with
  | zero => simp [run]; ring
  | succ l ih =>
    have h : m + (k + 1 + l) + 1 = m + k + 1 + l + 1 := by omega
    rw [show k + 1 + (l + 1) = (k + 1 + l) + 1 by omega]
    simp only [run, ih, h]
    ring

/-- A run is a weighted sum, rescaled. -/
theorem sum_eq_run {a : ℝ} (ha : a ≠ 0) (w : ℕ → ℝ) (m l : ℕ) :
    (∑ j ∈ Finset.range (l + 1), w (m + j) * (a ^ j)⁻¹) * a ^ l = run a w m l := by
  induction l with
  | zero => simp [run]
  | succ l ih =>
    rw [Finset.sum_range_succ, run, ← ih, add_mul]
    have : a ^ (l + 1) ≠ 0 := pow_ne_zero _ ha
    rw [mul_assoc (w _), inv_mul_cancel₀ this]
    simp only [← add_assoc]
    ring

/-- A sum over the lanes of `l`'s half up to `l`. -/
theorem sum_half (g : ℕ → ℝ) (l : ℕ) (hl : l < 128) :
    (∑ j : Fin 128, g j.val * (if j.val ≤ l ∧ j.val / 64 = l / 64 then 1 else 0)) = ∑ i ∈ Finset.range (l % 64 + 1), g (64 * (l / 64) + i) := by
  rw [Fin.sum_univ_eq_sum_range (fun j => g j * (if j ≤ l ∧ j / 64 = l / 64 then (1 : ℝ) else 0)) 128]
  simp only [mul_ite, mul_one, mul_zero]
  rw [← Finset.sum_filter]
  symm
  refine Finset.sum_nbij' (fun i => 64 * (l / 64) + i) (fun j => j - 64 * (l / 64)) ?_ ?_ ?_ ?_ ?_
  · intro i hi; simp only [Finset.mem_range, Finset.mem_filter] at hi ⊢; omega
  · intro i hi; simp only [Finset.mem_range, Finset.mem_filter] at hi ⊢; omega
  · intro i hi; simp
  · intro i hi; simp only [Finset.mem_range, Finset.mem_filter] at hi ⊢; omega
  · intro i hi; rfl

/-- What lane `l` of tile `n` adds to the scan: its weighted sample, the decay inside its half taken off. -/
def term (a s : ℝ) (x : ℕ → ℝ) (n l : ℕ) : ℝ := if n = 0 ∧ l = 0 then x 0 else x (128 * n + l) * (s * (a ^ (l % 64))⁻¹)

/-- The scan inside a half, -/
def half (a s : ℝ) (x : ℕ → ℝ) (n l : ℕ) : ℝ :=
  (∑ j : Fin 128, term a s x n j.val * (if j.val ≤ l ∧ j.val / 64 = l / 64 then 1 else 0)) * a ^ (l % 64)
/-- inside a tile, -/
def tileRun (a s : ℝ) (x : ℕ → ℝ) (n l : ℕ) : ℝ := half a s x n l + (if 64 ≤ l then a ^ (l - 63) else 0) * half a s x n 63
/-- and over the tiles up to `n`. -/
def scanned (a s : ℝ) (x : ℕ → ℝ) : ℕ → ℕ → ℝ
  | 0, l => tileRun a s x 0 l
  | n + 1, l => tileRun a s x (n + 1) l + a ^ (l + 1) * scanned a s x n 127

variable {a : ℝ} (s : ℝ) (x : ℕ → ℝ)

theorem half_eq (ha : a ≠ 0) (n l : ℕ) (hl : l < 128) :
    half a s x n l = run a (weighted s x) (128 * n + 64 * (l / 64)) (l % 64) := by
  rw [half, sum_half _ l hl, ← sum_eq_run ha]
  congr 1
  refine Finset.sum_congr rfl fun i hi => ?_
  have hi' : i < 64 := by simp only [Finset.mem_range] at hi; omega
  have hm : (64 * (l / 64) + i) % 64 = i := by omega
  have hs : 128 * n + (64 * (l / 64) + i) = 128 * n + 64 * (l / 64) + i := by omega
  rw [term, weighted, hm, hs]
  by_cases h : n = 0 ∧ 64 * (l / 64) + i = 0
  · have h0 : i = 0 := by omega
    have h1 : 128 * n + 64 * (l / 64) + i = 0 := by omega
    rw [if_pos h, if_pos h1, h0]; simp
  · have h1 : ¬ 128 * n + 64 * (l / 64) + i = 0 := by omega
    rw [if_neg h, if_neg h1]; ring

theorem tileRun_eq (ha : a ≠ 0) (n l : ℕ) (hl : l < 128) : tileRun a s x n l = run a (weighted s x) (128 * n) l := by
  rw [tileRun, half_eq s x ha n l hl, half_eq s x ha n 63 (by omega)]
  by_cases h : 64 ≤ l
  · have e1 : l / 64 = 1 := by omega
    have e2 : l % 64 = l - 64 := by omega
    have e3 : l - 63 = (l - 64) + 1 := by omega
    have e4 : run a (weighted s x) (128 * n) l = run a (weighted s x) (128 * n) (63 + 1 + (l - 64)) := by congr 1; omega
    rw [if_pos h, e1, e2, e3, e4, run_split]
    simp
  · have e1 : l / 64 = 0 := by omega
    have e2 : l % 64 = l := by omega
    rw [if_neg h, e1, e2]; simp

/-- The scan by tiles is the moving average. -/
theorem scanned_eq (ha : a ≠ 0) (n l : ℕ) (hl : l < 128) : scanned a s x n l = ema a s x (128 * n + l) := by
  rw [ema_eq_run]
  induction n generalizing l with
  | zero => rw [scanned, tileRun_eq s x ha 0 l hl]; simp
  | succ n ih =>
    have e : 128 * (n + 1) + l = (128 * n + 127) + 1 + l := by omega
    rw [scanned, tileRun_eq s x ha _ l hl, ih 127 (by omega), e, run_split]
    congr 2
    omega

/-- A moving average of nonnegative samples is nonnegative. -/
theorem ema_nonneg {s : ℝ} {x : ℕ → ℝ} (ha : 0 ≤ a) (hs : 0 ≤ s) (hx : ∀ t, 0 ≤ x t) (t : ℕ) : 0 ≤ ema a s x t := by
  induction t with
  | zero => exact hx 0
  | succ t ih => exact add_nonneg (mul_nonneg ha ih) (mul_nonneg hs (hx _))

/-- The moving average up to `t` reads the samples up to `t`. -/
theorem ema_congr {s : ℝ} {x y : ℕ → ℝ} (t : ℕ) (h : ∀ i ≤ t, x i = y i) : ema a s x t = ema a s y t := by
  induction t with
  | zero => exact h 0 le_rfl
  | succ t ih => rw [ema, ema, ih fun i hi => h i (by omega), h (t + 1) le_rfl]

end Cert.Scan
end
-- ==== Proof.PcenMath.lean ====
/- The mathematics of the compression over the extended reals: exponentials and logarithms to base 2 against natural ones, a
   power against the exponential of a logarithm, and log(e) + log1p(M/e) against log(M + e). -/
module

public import Idealize.ShloMosaic.PureOps.Ideal
public import Idealize.ShloMosaic.PureOps.Ideal.Laws
public import Idealize.ShloMosaic.Lib.IdealHost
public import Mathlib.Analysis.SpecialFunctions.Pow.Real

@[expose] public section

noncomputable section

namespace Cert.Pcen

open Idealize.ShloMosaic

/-- 2 to the power z / log 2 is exp z. -/
theorem exp2_mul_inv (z : EReal) : Ideal.exp2 (z * (((Real.log 2)⁻¹ : ℝ) : EReal)) = Ideal.exp z := by
  have h2 : 0 < Real.log 2 := Real.log_pos (by norm_num)
  have hp : 0 < (Real.log 2)⁻¹ := inv_pos.mpr h2
  induction z using EReal.rec with
  | bot => rw [EReal.bot_mul_coe_of_pos hp]; rfl
  | top => rw [EReal.top_mul_coe_of_pos hp]; rfl
  | coe r =>
    rw [← EReal.coe_mul, Ideal.exp2_coe, Ideal.exp_coe]
    congr 1
    show (2 : ℝ) ^ (r * (Real.log 2)⁻¹) = _
    rw [Real.rpow_def_of_pos (by norm_num)]
    congr 1
    field_simp

theorem exp_zero : Ideal.exp 0 = 1 := by
  rw [← EReal.coe_zero, Ideal.exp_coe, Real.exp_zero, EReal.coe_one]
theorem log_zero : Ideal.log 0 = ⊥ := by
  rw [← EReal.coe_zero, Ideal.log_coe, if_pos le_rfl]
theorem log_one : Ideal.log 1 = 0 := by
  rw [← EReal.coe_one, Ideal.log_coe, if_neg (by norm_num), Real.log_one, EReal.coe_zero]

/-- A logarithm undoes an exponential. -/
theorem log_exp (z : EReal) : Ideal.log (Ideal.exp z) = z := by
  induction z using EReal.rec with
  | bot => exact log_zero
  | top => rfl
  | coe r => simp [Ideal.log_coe, (Real.exp_pos r).not_ge]

theorem exp_nonneg (z : EReal) : 0 ≤ Ideal.exp z := by
  induction z using EReal.rec with
  | bot => simp
  | top => simp
  | coe r => rw [Ideal.exp_coe]; exact EReal.coe_nonneg.mpr (Real.exp_pos r).le

/-- A power of a nonnegative base by a nonnegative exponent is the exponential of the exponent times the base's logarithm. -/
theorem pow_eq (B r : EReal) (hB : 0 ≤ B) (hr : 0 ≤ r) : Ideal.pow B r = Ideal.exp (r * Ideal.log B) := by
  induction B using EReal.rec with
  | bot => simp at hB
  | top =>
    rw [Ideal.pow_top, Ideal.log_top]
    rcases hr.lt_or_eq with h | h
    · rw [if_pos h, EReal.mul_top_of_pos h]; rfl
    · subst h; simp [exp_zero]
  | coe b =>
    have hb : 0 ≤ b := EReal.coe_nonneg.mp hB
    induction r using EReal.rec with
    | bot => simp at hr
    | top =>
      rw [Ideal.pow_coe_top, Ideal.log_coe, if_neg hb.not_gt]
      by_cases h0 : b ≤ 0
      · have : b = 0 := le_antisymm h0 hb
        subst this
        simp
      · replace h0 := not_le.mp h0
        rw [if_neg h0.not_ge]
        rcases lt_trichotomy b 1 with h | h | h
        · rw [if_neg h.not_gt, if_neg h.ne, EReal.top_mul_coe_of_neg (Real.log_neg h0 h)]; rfl
        · subst h; simp [exp_zero]
        · rw [if_pos h, EReal.top_mul_coe_of_pos (Real.log_pos h)]; rfl
    | coe r =>
      have hr' : 0 ≤ r := EReal.coe_nonneg.mp hr
      rw [Ideal.pow_coe_coe, Ideal.log_coe]
      show ((b ^ r : ℝ) : EReal) = _
      by_cases h0 : b ≤ 0
      · have : b = 0 := le_antisymm h0 hb
        subst this
        rcases hr'.lt_or_eq with h | h
        · rw [if_pos le_rfl, EReal.coe_mul_bot_of_pos h, Real.zero_rpow h.ne']; rfl
        · subst h; simp [exp_zero]
      · replace h0 := not_le.mp h0
        rw [if_neg h0.not_ge, ← EReal.coe_mul, Ideal.exp_coe, Real.rpow_def_of_pos h0, mul_comm]

/-- log e + log(1 + M/e) is log(M + e). -/
theorem log_add_log1p (e M : ℝ) (he : 0 < e) (hM : 0 ≤ M) :
    Ideal.log (e : EReal) + Ideal.log1p (Ideal.div (M : EReal) (e : EReal)) = Ideal.log ((M : EReal) + (e : EReal)) := by
  have h1 : 0 < 1 + M * (1 / e) := by positivity
  have h2 : 0 < M + e := by positivity
  rw [Ideal.div_coe he.ne', ← EReal.coe_mul, Ideal.log1p, ← EReal.coe_one, ← EReal.coe_add, ← EReal.coe_add, Ideal.log_coe, Ideal.log_coe,
    Ideal.log_coe, if_neg he.not_ge, if_neg h1.not_ge, if_neg h2.not_ge, ← EReal.coe_add, ← Real.log_mul he.ne' h1.ne']
  congr 2
  field_simp
  ring

/-- The compression as the kernel computes it: over a sample `x`, its moving average `M`, the constant `e`, and the columns. -/
def byTwos (c e x M nal r d dr : EReal) : EReal :=
  Ideal.exp2 (r * (Ideal.log (x * Ideal.exp2 (nal * (Ideal.log (M + e) * c)) + d) * c)) - dr
/-- The compression as the reference writes it. -/
def plain (e x M al r dl : EReal) : EReal :=
  Ideal.pow (x * Ideal.exp (-al * (Ideal.log e + Ideal.log1p (Ideal.div M e))) + dl) r - Ideal.pow dl r

theorem byTwos_eq (e x M : ℝ) (he : 0 < e) (hx : 0 ≤ x) (hM : 0 ≤ M) (al r dlog : EReal) (hr : 0 ≤ r) :
    byTwos (((Real.log 2)⁻¹ : ℝ) : EReal) e x M (-al) r (Ideal.exp dlog) (Ideal.exp (r * dlog)) = plain e x M al r (Ideal.exp dlog) := by
  unfold byTwos plain
  rw [log_add_log1p e M he hM, ← mul_assoc, ← mul_assoc, exp2_mul_inv, exp2_mul_inv, pow_eq _ r (exp_nonneg _) hr, log_exp, pow_eq _ r _ hr]
  exact add_nonneg (mul_nonneg (EReal.coe_nonneg.mpr hx) (exp_nonneg _)) (exp_nonneg _)

end Cert.Pcen
end
-- ==== Proof.KernelIdealValue.lean ====
/- The ideal values of a block of the kernel: the tile-by-tile scan is the moving average, and a value is the compression of
   a sample and its average. -/
module

public import proofs.«01_k».proof.Proof.KernelIdealTile
public import proofs.«01_k».proof.Proof.ScanMath
public import proofs.«01_k».proof.Proof.PcenMath
public import Idealize.ShloMosaic.Lib.Pointwise.Tactic
public import Idealize.ShloMosaic.Lib.Pointwise.Contract

@[expose] public section

set_option maxRecDepth 16384

noncomputable section

namespace Cert.KernelIdeal.Behind

open Cert.KernelIdeal.Gen
open Idealize.ShloMosaic Idealize.ShloMosaic.TcCoe

variable (x0 : Vec Ideal S1x128x4096 .f32) (x1 : Vec Ideal S1x128x512 .f32) (x2 : Vec Ideal S128x4 .f32) (x3 : Vec Ideal S128x128 .bf16)

/-! ## The inputs at an index -/

theorem lane_lt (n : ℕ) (l : Fin 128) : 128 * (n % 32) + l.val < 4096 := by
  have := Nat.mod_lt n (show 32 > 0 by decide)
  have := l.isLt
  omega

set_option backward.isDefEq.respectTransparency false in
theorem xTile_apply (n : ℕ) (f l : Fin 128) : xTile x0 n (ix2 f l) = x0 (ix3 0 f ⟨128 * (n % 32) + l.val, lane_lt n l⟩) := by
  unfold xTile
  rw [Idealize.ShloMosaic.shapeCast_apply _ _ _ (ix3 (n0 := 1) (n1 := 128) (n2 := 128) 0 f l) (by simp [Shape.rowMajor_val_two, Shape.rowMajor_val_three])]
  pointwise

/-- A table read at an index: lane `o + l` of its block. -/
theorem table_apply (o : ℕ) (ho : ∀ a, (![0, 0, o] : Fin 3 → Nat) a + S1x128x128.size a ≤ S1x128x512.size a) (f l : Fin 128) (h : o + l.val < 512) :
    (shapeCast S128x128 (View.ld x1 (Rect.unit (s := S1x128x512) ![0, 0, o] S1x128x128.size ho)) shapeCasts_S1x128x128_S128x128 : FVec Ideal S128x128 .f32) (ix2 f l)
      = x1 (ix3 0 f ⟨o + l.val, h⟩) := by
  rw [Idealize.ShloMosaic.shapeCast_apply _ _ _ (ix3 (n0 := 1) (n1 := 128) (n2 := 128) 0 f l) (by simp [Shape.rowMajor_val_two, Shape.rowMajor_val_three])]
  pointwise
theorem column_apply (o : ℕ) (ho : ∀ a, (![0, o] : Fin 2 → Nat) a + S128x1.size a ≤ S128x4.size a) (f : Fin 128) (h : o < 4) :
    (shapeCast S128x1 (View.ld x2 (Rect.unit (s := S128x4) ![0, o] S128x1.size ho)) shapeCasts_S128x1_S128x1 : FVec Ideal S128x1 .f32) (ix2 f 0)
      = x2 (ix2 f ⟨o, h⟩) := by
  rw [Idealize.ShloMosaic.shapeCast_apply _ _ _ (ix2 (n0 := 128) (n1 := 1) f 0) rfl]
  pointwise
theorem scanM_apply (j l : Fin 128) : scanM x3 (ix2 j l) = x3 (ix2 j l) := by
  unfold scanM
  pointwise

/-! ## One tile -/

variable {x0 x1 x2 x3}

theorem coe_sum {n : ℕ} (g : Fin n → ℝ) : (∑ j, (g j : EReal)) = ((∑ j, g j : ℝ) : EReal) :=
  (map_sum (⟨⟨Real.toEReal, EReal.coe_zero⟩, EReal.coe_add⟩ : ℝ →+ EReal) g Finset.univ).symm

/-- A dot product at an index. -/
theorem dot_apply (u : FVec Ideal S128x128 .bf16) (w : FVec Ideal S128x128 .bf16) (acc : FVec Ideal S128x128 .f32) (f l : Fin 128) :
    matmul dot_S128x128_S128x128_S128x128_1_0_0_1_n_n none u w acc (ix2 f l) = acc (ix2 f l) + ∑ k : Fin 128, u (ix2 f k) * w (ix2 k l) := by
  pointwise

variable {f : Fin 128} {a s : ℝ} {X : ℕ → ℝ}

theorem halves_apply (M : ℕ → ℕ → ℝ) (hM : ∀ j l : Fin 128, x3 (ix2 j l) = (M j.val l.val : EReal)) (P : ℕ → ℝ) (hP : ∀ l : Fin 128, tabP0 x1 (ix2 f l) = (P l.val : EReal))
    (u : FVec Ideal S128x128 .f32) (U : ℕ → ℝ) (hu : ∀ l : Fin 128, u (ix2 f l) = (U l.val : EReal)) (l : Fin 128) :
    halves x1 x3 u (ix2 f l) = (((∑ j : Fin 128, U j.val * M j.val l.val) * P l.val : ℝ) : EReal) := by
  unfold halves
  show (matmul dot_S128x128_S128x128_S128x128_1_0_0_1_n_n none _ _ _ (ix2 f l) + matmul dot_S128x128_S128x128_S128x128_1_0_0_1_n_n none _ _ _ (ix2 f l)) * tabP0 x1 (ix2 f l) = _
  rw [dot_apply, dot_apply]
  pointwise [scanM_apply]
  simp only [hu, hM, hP, ← EReal.coe_sub, sub_self, ← EReal.coe_mul, coe_sum, zero_mul, Finset.sum_const_zero, Ideal.ofBits_zero_f32]
  simp [← EReal.coe_mul, coe_sum]

theorem joined_apply (u : FVec Ideal S128x128 .f32) (l : Fin 128) :
    joined x1 x3 u (ix2 f l) = halves x1 x3 u (ix2 f l) + tabPH x1 (ix2 f l) * halves x1 x3 u (ix2 f 63) := by
  unfold joined
  pointwise

theorem first_apply (l : Fin 128) :
    (select (cmpi .eq (iota .tc S128x128 32 [1] iota_S128x128_d1_w32) (broadcast S128x128 0#32)) (xTile x0 0) (mulf (xTile x0 0) (tabS x1)) : FVec Ideal S128x128 .f32) (ix2 f l)
      = if l.val = 0 then xTile x0 0 (ix2 f l) else xTile x0 0 (ix2 f l) * tabS x1 (ix2 f l) := by
  pointwise
  by_cases h : l.val = 0
  · simp [h, Scalar.select, IntOp.cmpi]
  · have hb : (BitVec.ofNat 32 l.val == 0#32) = false := by
      rw [beq_eq_false_iff_ne]
      intro hc
      have := congrArg BitVec.toNat hc
      simp at this
      have := l.isLt
      omega
    simp [h, Scalar.select, IntOp.cmpi, hb]

theorem later_apply (n : ℕ) (l : Fin 128) :
    average x0 x1 x3 (n + 1) (ix2 f l) = joined x1 x3 (mulf (xTile x0 (n + 1)) (tabS x1)) (ix2 f l) + tabP x1 (ix2 f l) * average x0 x1 x3 n (ix2 f 127) := by
  rw [average]
  pointwise

variable (f a s X) in
/-- What the scan takes of a row: real samples, and the tables of the powers of `a`. -/
structure RowOf (x0 : Vec Ideal S1x128x4096 .f32) (x1 : Vec Ideal S1x128x512 .f32) (x3 : Vec Ideal S128x128 .bf16) : Prop where
  sample : ∀ u : Fin 4096, x0 (ix3 0 f u) = (X u.val : EReal)
  scale : ∀ l : Fin 128, tabS x1 (ix2 f l) = ((s * (a ^ (l.val % 64))⁻¹ : ℝ) : EReal)
  unscale : ∀ l : Fin 128, tabP0 x1 (ix2 f l) = ((a ^ (l.val % 64) : ℝ) : EReal)
  carry : ∀ l : Fin 128, tabP x1 (ix2 f l) = ((a ^ (l.val + 1) : ℝ) : EReal)
  join : ∀ l : Fin 128, tabPH x1 (ix2 f l) = (((if 64 ≤ l.val then a ^ (l.val - 63) else 0 : ℝ)) : EReal)
  ones : ∀ j l : Fin 128, x3 (ix2 j l) = ((if j.val ≤ l.val ∧ j.val / 64 = l.val / 64 then 1 else 0 : ℝ) : EReal)

variable (R : RowOf f a s X x0 x1 x3)
include R

theorem tile_sum (n : ℕ) (u : FVec Ideal S128x128 .f32) (hu : ∀ l : Fin 128, u (ix2 f l) = (Cert.Scan.term a s X n l.val : EReal)) (l : Fin 128) :
    joined x1 x3 u (ix2 f l) = (Cert.Scan.tileRun a s X n l.val : EReal) := by
  have h := halves_apply (x1 := x1) (fun j l => if j ≤ l ∧ j / 64 = l / 64 then (1 : ℝ) else 0) R.ones (fun l => a ^ (l % 64)) R.unscale u _ hu
  rw [joined_apply, h, h, R.join, ← EReal.coe_mul, ← EReal.coe_add]
  rfl

theorem term_first (l : Fin 128) : (select (cmpi .eq (iota .tc S128x128 32 [1] iota_S128x128_d1_w32) (broadcast S128x128 0#32)) (xTile x0 0) (mulf (xTile x0 0) (tabS x1)) : FVec Ideal S128x128 .f32) (ix2 f l)
    = (Cert.Scan.term a s X 0 l.val : EReal) := by
  rw [first_apply, xTile_apply, R.sample, R.scale]
  unfold Cert.Scan.term
  by_cases h : l.val = 0
  · simp [h]
  · simp [h]
theorem term_later (n : ℕ) (hn : n + 1 < 32) (l : Fin 128) : (mulf (xTile x0 (n + 1)) (tabS x1) : FVec Ideal S128x128 .f32) (ix2 f l) = (Cert.Scan.term a s X (n + 1) l.val : EReal) := by
  show xTile x0 (n + 1) (ix2 f l) * tabS x1 (ix2 f l) = _
  rw [xTile_apply, R.sample, R.scale, ← EReal.coe_mul]
  unfold Cert.Scan.term
  rw [if_neg (by omega)]
  simp only [Nat.mod_eq_of_lt hn]

/-- The scan over the tiles. -/
theorem average_scan (n : ℕ) : ∀ (hn : n < 32) (l : Fin 128), average x0 x1 x3 n (ix2 f l) = (Cert.Scan.scanned a s X n l.val : EReal) := by
  induction n with
  | zero => intro _ l; exact tile_sum R 0 _ (term_first R) l
  | succ n ih =>
    intro hn l
    rw [later_apply, ih (by omega), tile_sum R (n + 1) _ (term_later R n hn), R.carry, ← EReal.coe_mul, ← EReal.coe_add]
    rfl
/-- THE MOVING AVERAGE at a lane of a tile. -/
theorem average_eq (ha : a ≠ 0) (n : ℕ) (hn : n < 32) (l : Fin 128) : average x0 x1 x3 n (ix2 f l) = (Cert.Scan.ema a s X (128 * n + l.val) : EReal) := by
  rw [average_scan R n hn, Cert.Scan.scanned_eq s X ha n l.val l.isLt]
omit R

/-! ## The compression -/

theorem inv_ln2 : (invLn2 : Ideal .f32) = (((Real.log 2)⁻¹ : ℝ) : EReal) := IdealRules.named_const.ideal_named_scalar _ _ _ _ rfl

set_option backward.isDefEq.respectTransparency false in
theorem normed_apply (n : ℕ) (l : Fin 128) : normed x0 x1 x2 x3 n (ix2 f l)
    = Cert.Pcen.byTwos (((Real.log 2)⁻¹ : ℝ) : EReal) (Ideal.ofBits .f32 0x3727C5AC#32) (x0 (ix3 0 f ⟨128 * (n % 32) + l.val, lane_lt n l⟩)) (average x0 x1 x3 n (ix2 f l))
        (x2 (ix2 f 0)) (x2 (ix2 f 1)) (x2 (ix2 f 2)) (x2 (ix2 f 3)) := by
  unfold normed powered
  have hA : colA x2 (ix2 f 0) = x2 (ix2 f 0) := column_apply x2 0 _ f (by decide)
  have hR : colR x2 (ix2 f 0) = x2 (ix2 f 1) := column_apply x2 1 _ f (by decide)
  have hD : colD x2 (ix2 f 0) = x2 (ix2 f 2) := column_apply x2 2 _ f (by decide)
  have hDR : colDR x2 (ix2 f 0) = x2 (ix2 f 3) := column_apply x2 3 _ f (by decide)
  rw [← hA, ← hR, ← hD, ← hDR, ← xTile_apply x0 n f l, ← inv_ln2]
  generalize colA x2 = cA
  generalize colR x2 = cR
  generalize colD x2 = cD
  generalize colDR x2 = cDR
  generalize average x0 x1 x3 n = av
  generalize xTile x0 n = xt
  pointwise
  rfl

end Cert.KernelIdeal.Behind
end
-- ==== Proof.KernelIdealHost.lean ====
/- What the kernel's host code hands to the launch: the padded samples, the tables of powers, the columns and the 0/1 matrix. -/
module

public import proofs.«01_k».proof.Proof.KernelIdealValue
public import proofs.«01_k».proof.Proof.Gen.KernelIdeal.Frame
public import Idealize.ShloMosaic.Lib.Pipeline.ValueKit

@[expose] public section

set_option maxRecDepth 16384

noncomputable section

namespace Cert.KernelIdeal.Host

open Cert.KernelIdeal.Gen
open Idealize.ShloMosaic Idealize.ShloMosaic.TcCoe Idealize.ShloMosaic.StableHlo

variable (m : (ℓ : Loc nD τ sig) → Buf (Elt Ideal) ℓ) (c : Dev nD)

/-! ## The blocks of the windows -/

theorem index_0 : ∀ t : Fin cfg0.N, win0_0.index t = ![t.val / 10, 0, 0] := by decide
theorem index_1 : ∀ t : Fin cfg0.N, win0_1.index t = ![t.val % 10, 0, 0] := by decide
theorem index_2 : ∀ t : Fin cfg0.N, win0_2.index t = ![0, 0] := by decide
theorem index_3 : ∀ t : Fin cfg0.N, win0_3.index t = ![0, 0] := by decide

theorem block_0 (t : Fin cfg0.N) (b : Fin 16) (hb : t.val / 10 = b.val) (f : Fin 128) (u : Fin 4096) :
    iblk m c 0 t (ix3 0 f u) = V m c main_v64 (ix3 b f u) := by
  show V m c main_v64 (((cfg0.win 0).blk t).view.emb (ix3 (n0 := 1) (n1 := 128) (n2 := 4096) 0 f u)) = _
  congr 1
  funext a
  apply Fin.ext
  fin_cases a <;> blk_simp [index_0, hb] <;> rfl
theorem block_1 (t : Fin cfg0.N) (q : Fin 10) (hq : t.val % 10 = q.val) (f : Fin 128) (u : Fin 512) :
    iblk m c 1 t (ix3 0 f u) = V m c main_v62 (ix3 q f u) := by
  show V m c main_v62 (((cfg0.win 1).blk t).view.emb (ix3 (n0 := 1) (n1 := 128) (n2 := 512) 0 f u)) = _
  congr 1
  funext a
  apply Fin.ext
  fin_cases a <;> blk_simp [index_1, hq] <;> rfl
theorem block_2 (t : Fin cfg0.N) (f : Fin 128) (u : Fin 4) : iblk m c 2 t (ix2 f u) = V m c main_v63 (ix2 f u) := by
  show V m c main_v63 (((cfg0.win 2).blk t).view.emb (ix2 (n0 := 128) (n1 := 4) f u)) = _
  congr 1
  funext a
  apply Fin.ext
  fin_cases a <;> blk_simp [index_2] <;> rfl
theorem block_3 (t : Fin cfg0.N) (j l : Fin 128) : iblk m c 3 t (ix2 j l) = V m c main_cst (ix2 j l) := by
  show V m c main_cst (((cfg0.win 3).blk t).view.emb (ix2 (n0 := 128) (n1 := 128) j l)) = _
  congr 1
  funext a
  apply Fin.ext
  fin_cases a <;> blk_simp [index_3] <;> rfl

/-! ## The host's arrays -/

/-- The natural logarithm of the decay, as multiples of the word of ln 2; and the exponential of a multiple of it. -/
def logDecay (S : FVec Ideal S10x128 .f32) : FVec Ideal S10x128x1 .f32 :=
  broadcastInDim S10x128x1 ![0, 1] bcast_S10x128_S10x128x1_0_1 (Host.divf (Host.log1p (Host.negf (Host.exp S))) (broadcastInDim S10x128 ![] bcast_S_S10x128 (constant S_ .f32 0x3F317218#32)))
def powers (L : FVec Ideal S10x128x1 .f32) (z : FVec Ideal S128 .f32) : FVec Ideal S10x128x128 .f32 :=
  Host.exp (mulf (broadcastInDim S10x128x128 ![] bcast_S_S10x128x128 (constant S_ .f32 0x3F317218#32))
    (mulf (broadcastInDim S10x128x128 ![0, 1, 2] bcast_S10x128x1_S10x128x128_0_1_2 L)
      (broadcastInDim S10x128x128 ![0, 1, 2] bcast_S1x1x128_S10x128x128_0_1_2 (broadcastInDim S1x1x128 ![2] bcast_S128_S1x1x128_2 z))))
/-- The lanes, the lanes inside a half, the lanes from one on, and the lanes past the first half. -/
def lanes : FVec Ideal S128 .f32 := sitofp .f32 (iotaInDim S128 32 0)
def lanesHalf : FVec Ideal S128 .f32 :=
  subf lanes (mulf (Host.floor (mulf lanes (broadcastInDim S128 ![] bcast_S_S128 (constant S_ .f32 0x3C800000#32)))) (broadcastInDim S128 ![] bcast_S_S128 (constant S_ .f32 0x42800000#32)))
def lanesNext : FVec Ideal S128 .f32 := addf lanes (broadcastInDim S128 ![] bcast_S_S128 (constant S_ .f32 0x3F800000#32))
def lanesPast : FVec Ideal S128 .f32 := subf lanes (broadcastInDim S128 ![] bcast_S_S128 (constant S_ .f32 0x427C0000#32))

/-- The four tables. -/
def tableS (S : FVec Ideal S10x128 .f32) : FVec Ideal S10x128x128 .f32 :=
  mulf (broadcastInDim S10x128x128 ![0, 1, 2] bcast_S10x128x1_S10x128x128_0_1_2 (broadcastInDim S10x128x1 ![0, 1] bcast_S10x128_S10x128x1_0_1 (Host.exp S))) (powers (Host.negf (logDecay S)) lanesHalf)
def tablePH (S : FVec Ideal S10x128 .f32) : FVec Ideal S10x128x128 .f32 :=
  select (broadcastInDim S10x128x128 ![2] bcast_S128_S10x128x128_2 (cmpf .oge lanes (broadcastInDim S128 ![] bcast_S_S128 (constant S_ .f32 0x42800000#32)))) (powers (logDecay S) lanesPast)
    (broadcastInDim S10x128x128 ![] bcast_S_S10x128x128 (id (constant S_ .f32 0x00000000#32)))
def tables (S : FVec Ideal S10x128 .f32) : FVec Ideal S10x128x512 .f32 :=
  concatenate S10x128x512 2 [⟨S10x128x128, tableS S⟩, ⟨S10x128x128, powers (logDecay S) lanesHalf⟩, ⟨S10x128x128, powers (logDecay S) lanesNext⟩, ⟨S10x128x128, tablePH S⟩]
    concatenates_S10x128x128_S10x128x128_S10x128x128_S10x128x128_S10x128x512_d2
/-- The columns. -/
def asColumn (v : FVec Ideal S128 .f32) : FVec Ideal S128x1 .f32 := shapeCast S128x1 v shapeCasts_S128_S128x1
def columns (A D R : FVec Ideal S128 .f32) : FVec Ideal S128x4 .f32 :=
  concatenate S128x4 1 [⟨S128x1, asColumn (Host.negf (Host.exp A))⟩, ⟨S128x1, asColumn (Host.exp R)⟩, ⟨S128x1, asColumn (Host.exp D)⟩, ⟨S128x1, asColumn (Host.exp (mulf (Host.exp R) D))⟩]
    concatenates_S128x1_S128x1_S128x1_S128x1_S128x4_d1
/-- The padded samples. -/
def padded (x : FVec Ideal S16x128x4000 .f32) : FVec Ideal S16x128x4096 .f32 :=
  pad S16x128x4096 ![0, 0, 0] ![0, 0, 96] ![0, 0, 0] x (sitofp .f32 (constantI S_ 32 0#32)) pads_S16x128x4000_S16x128x4096_000_000_0960 h_S_
def matrix01 : FVec Ideal S128x128 .bf16 := fun i => FloatOps.ofBits .bf16 (lit0 (S128x128.rowMajor i))

set_option maxHeartbeats 4000000 in
theorem entry_matrix : V m c main_cst = matrix01 := by
  show after (List.flatten [hostOps0, hostOps0_1, hostOps0_2, hostOps0_3]) _ _ = _
  simp only [List.flatten_cons, List.flatten_nil, List.append_nil, after_append]
  after_results
  all_goals rfl

set_option maxHeartbeats 4000000 in
theorem entry_padded : V m c main_v64 = padded (m (c, Proc.devRef .tc main_arg0)) := by
  show after (List.flatten [hostOps0, hostOps0_1, hostOps0_2, hostOps0_3]) _ _ = _
  simp only [List.flatten_cons, List.flatten_nil, List.append_nil, after_append]
  after_results
  all_goals rfl

set_option maxHeartbeats 4000000 in
theorem entry_columns : V m c main_v63 = columns (m (c, Proc.devRef .tc main_arg2)) (m (c, Proc.devRef .tc main_arg3)) (m (c, Proc.devRef .tc main_arg4)) := by
  show after (List.flatten [hostOps0, hostOps0_1, hostOps0_2, hostOps0_3]) _ _ = _
  simp only [List.flatten_cons, List.flatten_nil, List.append_nil, after_append]
  after_results
  all_goals rfl

set_option maxHeartbeats 4000000 in
theorem entry_tables : V m c main_v62 = tables (m (c, Proc.devRef .tc main_arg1)) := by
  show after (List.flatten [hostOps0, hostOps0_1, hostOps0_2, hostOps0_3]) _ _ = _
  simp only [List.flatten_cons, List.flatten_nil, List.append_nil, after_append]
  after_results
  all_goals rfl

end Cert.KernelIdeal.Host
end
-- ==== Proof.KernelIdealTables.lean ====
/- The values of the host's arrays at an index: powers of the decay. -/
module

public import proofs.«01_k».proof.Proof.KernelIdealHost

@[expose] public section

set_option maxRecDepth 16384

noncomputable section

namespace Cert.KernelIdeal.Host

open Cert.KernelIdeal.Gen
open Idealize.ShloMosaic Idealize.ShloMosaic.TcCoe Idealize.ShloMosaic.StableHlo

/-! ## The literals -/

theorem word_eps : ∃ e : ℝ, 0 < e ∧ Ideal.ofBits .f32 0x3727C5AC#32 = (e : EReal) := by
  refine ⟨10995116 * (2 : ℝ) ^ (-40 : ℤ), by positivity, ?_⟩
  simp [Ideal.ofBits, Ideal.ieee, -EReal.coe_mul]
  try norm_num
theorem word_ln2 : ∃ d : ℝ, d ≠ 0 ∧ Ideal.ofBits .f32 0x3F317218#32 = (d : EReal) := by
  refine ⟨11629080 * (2 : ℝ) ^ (-24 : ℤ), by positivity, ?_⟩
  simp [Ideal.ofBits, Ideal.ieee, -EReal.coe_mul]
  try norm_num
theorem word_64 : Ideal.ofBits .f32 0x42800000#32 = ((64 : ℝ) : EReal) := by
  simp [Ideal.ofBits, Ideal.ieee, -EReal.coe_mul]
  try norm_num
theorem word_63 : Ideal.ofBits .f32 0x427C0000#32 = ((63 : ℝ) : EReal) := by
  simp [Ideal.ofBits, Ideal.ieee, -EReal.coe_mul]
  try norm_num
theorem word_64th : Ideal.ofBits .f32 0x3C800000#32 = ((1 / 64 : ℝ) : EReal) := by
  simp [Ideal.ofBits, Ideal.ieee, -EReal.coe_mul]
  try norm_num

/-! ## The lanes -/

theorem lanes_apply (l : Fin 128) : lanes (ix1 l) = ((l.val : ℝ) : EReal) := by
  unfold lanes
  pointwise
  show (((BitVec.ofNat 32 l.val).toInt : ℝ) : EReal) = _
  have h : (BitVec.ofNat 32 l.val).toInt = (l.val : ℤ) := by
    have := l.isLt
    rw [BitVec.toInt_eq_toNat_of_lt (by rw [BitVec.toNat_ofNat, Nat.mod_eq_of_lt (by omega)]; omega), BitVec.toNat_ofNat, Nat.mod_eq_of_lt (by omega)]
  rw [h]
  norm_cast
theorem floor_64th (l : ℕ) : ⌊(l : ℝ) * (1 / 64)⌋ = ((l / 64 : ℕ) : ℤ) := by
  rw [Int.floor_eq_iff]
  have h1 : 64 * (l / 64) ≤ l := Nat.mul_div_le l 64
  have h2 : l < 64 * (l / 64) + 64 := by omega
  have h1' : (64 : ℝ) * ((l / 64 : ℕ) : ℝ) ≤ l := by exact_mod_cast h1
  have h2' : (l : ℝ) < 64 * ((l / 64 : ℕ) : ℝ) + 64 := by exact_mod_cast h2
  rw [Int.cast_natCast]
  constructor <;> linarith
theorem lanesHalf_apply (l : Fin 128) : lanesHalf (ix1 l) = (((l.val % 64 : ℕ) : ℝ) : EReal) := by
  unfold lanesHalf
  pointwise [lanes_apply]
  rw [word_64, word_64th, ← EReal.coe_mul, Ideal.liftRound_coe, floor_64th, ← EReal.coe_mul, ← EReal.coe_sub]
  congr 1
  have h : (l.val : ℝ) = ((64 * (l.val / 64) + l.val % 64 : ℕ) : ℝ) := by rw [Nat.div_add_mod]
  rw [Int.cast_natCast, h]
  push_cast
  ring
theorem lanesNext_apply (l : Fin 128) : lanesNext (ix1 l) = (((l.val + 1 : ℕ) : ℝ) : EReal) := by
  unfold lanesNext
  pointwise [lanes_apply]
  push_cast
  rfl
theorem lanesPast_apply (l : Fin 128) : lanesPast (ix1 l) = ((((l.val : ℝ) - 63 : ℝ)) : EReal) := by
  unfold lanesPast
  pointwise [lanes_apply, word_63]
  rw [EReal.coe_sub]

/-! ## The powers -/

theorem powers_apply (L : FVec Ideal S10x128x1 .f32) (z : FVec Ideal S128 .f32) (q : Fin 10) (f l : Fin 128) :
    powers L z (ix3 q f l) = Ideal.exp (Ideal.ofBits .f32 0x3F317218#32 * (L (ix3 q f 0) * z (ix1 l))) := by
  unfold powers
  pointwise

section Row
variable (S : FVec Ideal S10x128 .f32) (q : Fin 10) (f l : Fin 128) (s : ℝ) (hs : Ideal.exp (S (ix2 q f)) = (s : EReal)) (h1 : s < 1)
include hs h1

theorem logDecay_apply : logDecay S (ix3 q f 0) = Ideal.div ((Real.log (1 - s) : ℝ) : EReal) (Ideal.ofBits .f32 0x3F317218#32) := by
  have e : logDecay S (ix3 q f 0) = Ideal.div (Ideal.log1p (-Ideal.exp (S (ix2 q f)))) (Ideal.ofBits .f32 0x3F317218#32) := by
    unfold logDecay
    pointwise
  have h : Ideal.log1p (-(s : EReal)) = ((Real.log (1 - s) : ℝ) : EReal) := by
    unfold Ideal.log1p
    rw [← EReal.coe_neg, ← EReal.coe_one, ← EReal.coe_add, ← sub_eq_add_neg, Ideal.log_coe, if_neg (by linarith)]
  rw [e, hs, h]
/-- An exponential of a multiple of the logarithm: the two words of ln 2 cancel. -/
theorem powers_real (z : FVec Ideal S128 .f32) (ζ : ℝ) (hz : z (ix1 l) = (ζ : EReal)) : powers (logDecay S) z (ix3 q f l) = ((Real.exp (Real.log (1 - s) * ζ) : ℝ) : EReal) := by
  obtain ⟨d, hd, e⟩ := word_ln2
  rw [powers_apply, logDecay_apply S q f s hs h1, hz, e, Ideal.div_coe hd, ← EReal.coe_mul, ← EReal.coe_mul, ← EReal.coe_mul, Ideal.exp_coe]
  congr 2
  field_simp
theorem powers_neg (z : FVec Ideal S128 .f32) (ζ : ℝ) (hz : z (ix1 l) = (ζ : EReal)) :
    powers (Host.negf (logDecay S)) z (ix3 q f l) = ((Real.exp (-(Real.log (1 - s) * ζ)) : ℝ) : EReal) := by
  obtain ⟨d, hd, e⟩ := word_ln2
  have hn : (Host.negf (logDecay S) : FVec Ideal S10x128x1 .f32) (ix3 q f 0) = -logDecay S (ix3 q f 0) := by pointwise
  rw [powers_apply, hn, logDecay_apply S q f s hs h1, hz, e, Ideal.div_coe hd, ← EReal.coe_mul, ← EReal.coe_neg, ← EReal.coe_mul, ← EReal.coe_mul, Ideal.exp_coe]
  congr 2
  field_simp

omit hs in
theorem exp_log_mul (n : ℕ) : Real.exp (Real.log (1 - s) * n) = (1 - s) ^ n := by
  rw [mul_comm, Real.exp_nat_mul, Real.exp_log (by linarith)]

theorem tableS_apply : tableS S (ix3 q f l) = ((s * ((1 - s) ^ (l.val % 64))⁻¹ : ℝ) : EReal) := by
  unfold tableS
  pointwise
  rw [powers_neg S q f l s hs h1 _ _ (lanesHalf_apply l), hs, Real.exp_neg, exp_log_mul s h1, ← EReal.coe_mul]
theorem tableP0_apply : powers (logDecay S) lanesHalf (ix3 q f l) = (((1 - s) ^ (l.val % 64) : ℝ) : EReal) := by
  rw [powers_real S q f l s hs h1 _ _ (lanesHalf_apply l), exp_log_mul s h1]
theorem tableP_apply : powers (logDecay S) lanesNext (ix3 q f l) = (((1 - s) ^ (l.val + 1) : ℝ) : EReal) := by
  rw [powers_real S q f l s hs h1 _ _ (lanesNext_apply l), exp_log_mul s h1]
theorem tablePH_apply : tablePH S (ix3 q f l) = ((if 64 ≤ l.val then (1 - s) ^ (l.val - 63) else 0 : ℝ) : EReal) := by
  unfold tablePH
  pointwise [lanes_apply]
  rw [powers_real S q f l s hs h1 _ _ (lanesPast_apply l), word_64]
  by_cases h : 64 ≤ l.val
  · have h' : ((64 : ℝ) : EReal) ≤ ((l.val : ℝ) : EReal) := EReal.coe_le_coe_iff.mpr (by exact_mod_cast h)
    have hz : (l.val : ℝ) - 63 = ((l.val - 63 : ℕ) : ℝ) := by rw [Nat.cast_sub (by omega)]; norm_num
    rw [if_pos h', if_pos h, hz, exp_log_mul s h1]
  · have h' : ¬ ((64 : ℝ) : EReal) ≤ ((l.val : ℝ) : EReal) := fun hc => h (by exact_mod_cast EReal.coe_le_coe_iff.mp hc)
    rw [if_neg h', if_neg h]
    exact Ideal.ofBits_zero_f32
end Row

/-! ## The arrays -/

/-- The four tables, by the lanes they hold. -/
theorem tables_apply (S : FVec Ideal S10x128 .f32) (q : Fin 10) (f : Fin 128) (l : Fin 512) : tables S (ix3 q f l)
    = if h : l.val < 128 then tableS S (ix3 q f ⟨l.val, h⟩)
      else if h : l.val - 128 < 128 then powers (logDecay S) lanesHalf (ix3 q f ⟨l.val - 128, h⟩)
      else if h : l.val - 128 - 128 < 128 then powers (logDecay S) lanesNext (ix3 q f ⟨l.val - 128 - 128, h⟩)
      else tablePH S (ix3 q f ⟨l.val - 128 - 128 - 128, by have := l.isLt; omega⟩) := by
  unfold tables
  pointwise

set_option backward.isDefEq.respectTransparency false in
theorem asColumn_apply (v : FVec Ideal S128 .f32) (f : Fin 128) : asColumn v (ix2 f 0) = v (ix1 f) := by
  unfold asColumn
  rw [Idealize.ShloMosaic.shapeCast_apply _ _ _ (ix1 (n0 := 128) f) (by simp [Shape.rowMajor_val_two, Shape.rowMajor_val_one])]
section Columns
variable (A D R : FVec Ideal S128 .f32) (f : Fin 128)
theorem columns_0 : columns A D R (ix2 f 0) = -Ideal.exp (A (ix1 f)) := by
  unfold columns
  pointwise [asColumn_apply]
theorem columns_1 : columns A D R (ix2 f 1) = Ideal.exp (R (ix1 f)) := by
  unfold columns
  pointwise [asColumn_apply]
theorem columns_2 : columns A D R (ix2 f 2) = Ideal.exp (D (ix1 f)) := by
  unfold columns
  pointwise [asColumn_apply]
theorem columns_3 : columns A D R (ix2 f 3) = Ideal.exp (Ideal.exp (R (ix1 f)) * D (ix1 f)) := by
  unfold columns
  pointwise [asColumn_apply]
end Columns

theorem padded_apply (x : FVec Ideal S16x128x4000 .f32) (b : Fin 16) (f : Fin 128) (u : Fin 4096) :
    padded x (ix3 b f u) = if h : u.val < 4000 then x (ix3 b f ⟨u.val, h⟩) else 0 := by
  have h0 : (FloatOps.sitofp .f32 0#32 : Ideal .f32) = 0 := by
    show (((0#32 : BitVec 32).toInt : ℝ) : EReal) = 0
    simp
  unfold padded
  pointwise
  rw [h0]

end Cert.KernelIdeal.Host
end
-- ==== Proof.KernelIdealMatrix.lean ====
/- The scan's 0/1 matrix: its literal's words, and their values. -/
module

public import proofs.«01_k».proof.Proof.KernelIdealHost

@[expose] public section

set_option maxRecDepth 16384

noncomputable section

namespace Cert.KernelIdeal.Host

open Cert.KernelIdeal.Gen
open Idealize.ShloMosaic Idealize.ShloMosaic.TcCoe Idealize.ShloMosaic.StableHlo

/-- The 0/1 matrix's words. -/
theorem lit0_eq : ∀ j l : Fin 128, lit0 (S128x128.rowMajor (ix2 j l)) = if j.val ≤ l.val ∧ j.val / 64 = l.val / 64 then 0x3F80#16 else 0x0000#16 := by
  decide +kernel
theorem matrix01_apply (j l : Fin 128) : matrix01 (ix2 j l) = ((if j.val ≤ l.val ∧ j.val / 64 = l.val / 64 then 1 else 0 : ℝ) : EReal) := by
  show Ideal.ofBits .bf16 (lit0 (S128x128.rowMajor (ix2 j l))) = _
  rw [lit0_eq]
  split
  · exact Ideal.ofBits_one_bf16
  · exact Ideal.ofBits_zero_bf16

end Cert.KernelIdeal.Host
end
-- ==== Proof.KernelIdealOutput.lean ====
/- The kernel's result at an index, under the precondition: the reference's compression of a sample and its moving average. -/
module

public import proofs.«01_k».proof.Proof.KernelIdealTables
public import proofs.«01_k».proof.Proof.KernelIdealMatrix
public import proofs.«01_k».proof.Proof.KernelIdealRun

@[expose] public section

set_option maxRecDepth 16384

noncomputable section

namespace Cert.KernelIdeal.Host

open Cert.KernelIdeal.Gen Cert.KernelIdeal.Behind
open Idealize.ShloMosaic Idealize.ShloMosaic.TcCoe Idealize.ShloMosaic.StableHlo

variable (m : (ℓ : Loc nD τ sig) → Buf (Elt Ideal) ℓ) (c : Dev nD)

/-- The arguments. -/
abbrev argX : FVec Ideal S16x128x4000 .f32 := m (c, Proc.devRef .tc main_arg0)
abbrev argS : FVec Ideal S10x128 .f32 := m (c, Proc.devRef .tc main_arg1)
abbrev argA : FVec Ideal S128 .f32 := m (c, Proc.devRef .tc main_arg2)
abbrev argD : FVec Ideal S128 .f32 := m (c, Proc.devRef .tc main_arg3)
abbrev argR : FVec Ideal S128 .f32 := m (c, Proc.devRef .tc main_arg4)

/-- A row of samples, zero from its end on. -/
def rowAt (b : Fin 16) (f : Fin 128) (u : ℕ) : ℝ := if h : u < 4000 then (argX m c (ix3 b f ⟨u, h⟩)).toReal else 0

variable {m c} {t : Fin cfg0.N} {b : Fin 16} {q : Fin 10} {f : Fin 128} {s : ℝ}

/-- What a grid point finds of a row is what the scan takes. -/
theorem row_of (hb : t.val / 10 = b.val) (hq : t.val % 10 = q.val) (hx : ∀ i, ((argX m c i).toReal : EReal) = argX m c i)
    (hs : Ideal.exp (argS m c (ix2 q f)) = (s : EReal)) (h1 : s < 1) :
    RowOf f (1 - s) s (rowAt m c b f) (iblk m c 0 t) (iblk m c 1 t) (iblk m c 3 t) where
  sample u := by
    refine (block_0 m c t b hb f u).trans ?_
    rw [entry_padded]
    refine (padded_apply _ b f u).trans ?_
    unfold rowAt
    split
    · exact (hx _).symm
    · exact EReal.coe_zero.symm
  scale l := by
    have h : 0 + l.val < 512 := by have := l.isLt; omega
    refine (table_apply _ 0 _ f l h).trans ((block_1 m c t q hq f _).trans ?_)
    rw [entry_tables]
    refine (tables_apply _ q f _).trans ?_
    rw [dif_pos (show 0 + l.val < 128 by have := l.isLt; omega)]
    simp only [Nat.zero_add]
    exact tableS_apply _ q f l s hs h1
  unscale l := by
    have h : 128 + l.val < 512 := by have := l.isLt; omega
    refine (table_apply _ 128 _ f l h).trans ((block_1 m c t q hq f _).trans ?_)
    rw [entry_tables]
    refine (tables_apply _ q f _).trans ?_
    rw [dif_neg (show ¬ 128 + l.val < 128 by omega), dif_pos (show 128 + l.val - 128 < 128 by have := l.isLt; omega)]
    simp only [Nat.add_sub_cancel_left]
    exact tableP0_apply _ q f l s hs h1
  carry l := by
    have h : 256 + l.val < 512 := by have := l.isLt; omega
    refine (table_apply _ 256 _ f l h).trans ((block_1 m c t q hq f _).trans ?_)
    rw [entry_tables]
    refine (tables_apply _ q f _).trans ?_
    have e : 256 + l.val - 128 - 128 = l.val := by omega
    rw [dif_neg (show ¬ 256 + l.val < 128 by omega), dif_neg (show ¬ 256 + l.val - 128 < 128 by omega), dif_pos (show 256 + l.val - 128 - 128 < 128 by have := l.isLt; omega)]
    simp only [e]
    exact tableP_apply _ q f l s hs h1
  join l := by
    have h : 384 + l.val < 512 := by have := l.isLt; omega
    refine (table_apply _ 384 _ f l h).trans ((block_1 m c t q hq f _).trans ?_)
    rw [entry_tables]
    refine (tables_apply _ q f _).trans ?_
    have e : 384 + l.val - 128 - 128 - 128 = l.val := by omega
    rw [dif_neg (show ¬ 384 + l.val < 128 by omega), dif_neg (show ¬ 384 + l.val - 128 < 128 by omega), dif_neg (show ¬ 384 + l.val - 128 - 128 < 128 by omega)]
    simp only [e]
    exact tablePH_apply _ q f l s hs h1
  ones j l := by
    refine (block_3 m c t j l).trans ?_
    rw [entry_matrix]
    exact matrix01_apply j l

/-- THE RESULT at an index. -/
theorem output_at (b : Fin 16) (q : Fin 10) (f : Fin 128) (t : Fin 4000) (hx : ∀ i, ((argX m c i).toReal : EReal) = argX m c i) (hx0 : ∀ i, 0 ≤ (argX m c i).toReal)
    (hs : Ideal.exp (argS m c (ix2 q f)) = (s : EReal)) (h0 : 0 ≤ s) (h1 : s < 1) :
    output m c (ix4 b q f t)
      = Cert.Pcen.plain (Ideal.ofBits .f32 0x3727C5AC#32) (argX m c (ix3 b f t)) (Cert.Scan.ema (1 - s) s (rowAt m c b f) t.val : EReal)
          (Ideal.exp (argA m c (ix1 f))) (Ideal.exp (argR m c (ix1 f))) (Ideal.exp (argD m c (ix1 f))) := by
  have ht := t.isLt
  have hp0 : (pointOf (ix4 b q f t)).val / 10 = b.val := by
    show (10 * b.val + q.val) / 10 = b.val
    have := q.isLt; omega
  have hp1 : (pointOf (ix4 b q f t)).val % 10 = q.val := by
    show (10 * b.val + q.val) % 10 = q.val
    have := q.isLt; omega
  unfold output
  show blockOut (iblk m c 0 (pointOf (ix4 b q f t))) (iblk m c 1 (pointOf (ix4 b q f t))) (iblk m c 2 (pointOf (ix4 b q f t))) (iblk m c 3 (pointOf (ix4 b q f t))) (ix2 f t) = _
  generalize pointOf (ix4 b q f t) = p at hp0 hp1
  have R := row_of hp0 hp1 hx hs h1
  have hl : t.val % 128 < 128 := Nat.mod_lt _ (by decide)
  have hn : t.val / 128 < 32 := by omega
  show normed (iblk m c 0 p) (iblk m c 1 p) (iblk m c 2 p) (iblk m c 3 p) (t.val / 128) (ix2 f ⟨t.val % 128, hl⟩) = _
  have hu : 128 * (t.val / 128 % 32) + t.val % 128 = t.val := by omega
  have hsample : iblk m c 0 p (ix3 0 f ⟨128 * (t.val / 128 % 32) + t.val % 128, lane_lt (t.val / 128) ⟨t.val % 128, hl⟩⟩) = (rowAt m c b f t.val : EReal) := by
    refine (R.sample _).trans ?_
    show ((rowAt m c b f (128 * (t.val / 128 % 32) + t.val % 128) : ℝ) : EReal) = _
    rw [hu]
  have hrow : argX m c (ix3 b f t) = (rowAt m c b f t.val : EReal) := by
    unfold rowAt
    rw [dif_pos ht]
    exact (hx _).symm
  have hrow0 : ∀ u, 0 ≤ rowAt m c b f u := by
    intro u
    unfold rowAt
    split
    · exact hx0 _
    · exact le_rfl
  have hM : 128 * (t.val / 128) + t.val % 128 = t.val := Nat.div_add_mod _ _
  have hcol : ∀ u : Fin 4, iblk m c 2 p (ix2 f u) = columns (argA m c) (argD m c) (argR m c) (ix2 f u) := by
    intro u
    refine (block_2 m c p f u).trans ?_
    rw [entry_columns]
  obtain ⟨e, he, hw⟩ := word_eps
  refine (normed_apply _ _).trans ?_
  rw [hsample, average_eq R (by linarith) (t.val / 128) hn ⟨t.val % 128, hl⟩, hrow, hw]
  rw [hcol, hcol, hcol, hcol, columns_0, columns_1, columns_2, columns_3]
  show Cert.Pcen.byTwos _ _ _ ((Cert.Scan.ema (1 - s) s (rowAt m c b f) (128 * (t.val / 128) + t.val % 128) : ℝ) : EReal) _ _ _ _ = _
  rw [hM]
  exact Cert.Pcen.byTwos_eq e _ _ he (hrow0 _) (Cert.Scan.ema_nonneg (by linarith) h0 hrow0 _) _ _ _ (Cert.Pcen.exp_nonneg _)

end Cert.KernelIdeal.Host
end
-- ==== Proof.ReferenceLoop.lean ====
/- What the reference's loop computes, over the extended reals: before trip `k` the carry is the moving average after `k` samples,
   and the accumulator's rows below `k` are the moving averages after 1, 2, …, `k` samples. -/
module

public import proofs.«01_k».proof.Proof.ReferenceRun
public import Idealize.ShloMosaic.Lib.Pointwise.Tactic
public import Idealize.ShloMosaic.Lib.DynamicIndex
public import Idealize.ShloMosaic.Lib.Tactic.CleanTypes
public import Idealize.ShloMosaic.Lib.Pipeline.Value
public import Idealize.ShloMosaic.Lib.ValueLayout

@[expose] public section

set_option maxRecDepth 16384

noncomputable section

namespace Cert.ReferenceIdeal.Scan

open Cert.ReferenceIdeal.Gen Cert.ReferenceIdeal.Value
open Idealize.ShloMosaic Idealize.ShloMosaic.TcCoe Idealize.ShloMosaic.StableHlo
open Idealize.SL Idealize.SL.Sem

/-- One trip's new carry, of the samples, the coefficients, the counter and the carry. -/
def nextCarry (xs : FVec Ideal S3999x16x128 .f32) (s : FVec Ideal S10x1x128 .f32) (ctr : IVec S_ 32) (carry : FVec Ideal S10x16x128 .f32) :
    FVec Ideal S10x16x128 .f32 :=
  addf (mulf (broadcastInDim S10x16x128 ![0, 1, 2] bcast_S10x1x128_S10x16x128_0_1_2 (subf (broadcastInDim S10x1x128 ![] bcast_S_S10x1x128 (constant S_ .f32 0x3F800000#32)) s)) carry)
    (mulf (broadcastInDim S10x16x128 ![0, 1, 2] bcast_S10x1x128_S10x16x128_0_1_2 s)
      (broadcastInDim S10x16x128 ![0, 1, 2] bcast_S1x16x128_S10x16x128_0_1_2 (broadcastInDim S1x16x128 ![1, 2] bcast_S16x128_S1x16x128_1_2
        (shapeCast S16x128 (Host.dynamicSlice S1x16x128 xs (fun k => ((![ctr, constantI S_ 32 0#32, constantI S_ 32 0#32] : Fin 3 → IVec S_ 32) k (Shape.Idx.first h_S_)).toInt) sliceFits_S3999x16x128_S1x16x128) shapeCasts_S1x16x128_S16x128))))

/-- The accumulator after a trip. -/
def nextRows (ctr : IVec S_ 32) (rows : FVec Ideal S3999x10x16x128 .f32) (carry : FVec Ideal S10x16x128 .f32) : FVec Ideal S3999x10x16x128 .f32 :=
  Host.dynamicUpdateSlice rows (broadcastInDim S1x10x16x128 ![1, 2, 3] bcast_S10x16x128_S1x10x16x128_1_2_3 carry)
    (fun k => ((![ctr, constantI S_ 32 0#32, constantI S_ 32 0#32, constantI S_ 32 0#32] : Fin 4 → IVec S_ 32) k (Shape.Idx.first h_S_)).toInt) updateFits_S3999x10x16x128_S1x10x16x128

theorem counter_toInt {k : ℕ} (hk : k < 3999) : (Scf.iv 0#32 1#32 k).toInt = k := by
  rw [show Scf.iv 0#32 1#32 k = BitVec.ofNat 32 k by simp [Scf.iv]]
  exact toInt_ofNat_of_lt (by omega)

set_option backward.isDefEq.respectTransparency false in
theorem nextCarry_apply (xs : FVec Ideal S3999x16x128 .f32) (s : FVec Ideal S10x1x128 .f32) (carry : FVec Ideal S10x16x128 .f32) {k : ℕ} (hk : k < 3999)
    (q : Fin 10) (b : Fin 16) (f : Fin 128) :
    nextCarry xs s (fun _ => Scf.iv 0#32 1#32 k) carry (ix3 q b f)
      = (1 - s (ix3 q 0 f)) * carry (ix3 q b f) + s (ix3 q 0 f) * xs (ix3 ⟨k, hk⟩ b f) := by
  have h : Host.dynamicSlice S1x16x128 xs (fun i => ((![fun _ => Scf.iv 0#32 1#32 k, constantI S_ 32 0#32, constantI S_ 32 0#32] : Fin 3 → IVec S_ 32) i (Shape.Idx.first h_S_)).toInt) sliceFits_S3999x16x128_S1x16x128
      = extractStridedSlice S1x16x128 ![k, 0, 0] xs ⟨rfl, by intro a; fin_cases a <;> simp <;> omega⟩ :=
    Host.dynamicSlice_eq_extractStridedSlice _ _ _ _ _ _ (by
      intro a; fin_cases a
      · exact counter_toInt hk
      · rfl
      · rfl)
  have e : shapeCast S16x128 (extractStridedSlice S1x16x128 ![k, 0, 0] xs ⟨rfl, by intro a; fin_cases a <;> simp <;> omega⟩) shapeCasts_S1x16x128_S16x128 (ix2 b f)
      = xs (ix3 ⟨k, hk⟩ b f) := by
    rw [Idealize.ShloMosaic.shapeCast_apply _ _ _ (ix3 (n0 := 1) (n1 := 16) (n2 := 128) 0 b f) (by simp [Shape.rowMajor_val_two, Shape.rowMajor_val_three])]
    exact extractStridedSlice_apply ![k, 0, 0] xs _ (ix3 (n0 := 1) (n1 := 16) (n2 := 128) 0 b f) (ix3 (⟨k, hk⟩ : Fin 3999) b f) (by intro i; fin_cases i <;> simp)
  unfold nextCarry
  rw [h]
  pointwise
  rw [e]

set_option backward.isDefEq.respectTransparency false in
theorem nextRows_apply (rows : FVec Ideal S3999x10x16x128 .f32) (carry : FVec Ideal S10x16x128 .f32) {k : ℕ} (hk : k < 3999)
    (t : Fin 3999) (q : Fin 10) (b : Fin 16) (f : Fin 128) :
    nextRows (fun _ => Scf.iv 0#32 1#32 k) rows carry (ix4 t q b f) = if t.val = k then carry (ix3 q b f) else rows (ix4 t q b f) := by
  have h : nextRows (fun _ => Scf.iv 0#32 1#32 k) rows carry
      = updateSlice rows (broadcastInDim S1x10x16x128 ![1, 2, 3] bcast_S10x16x128_S1x10x16x128_1_2_3 carry) ![k, 0, 0, 0] ⟨rfl, by intro a; fin_cases a <;> simp <;> omega⟩ :=
    Host.dynamicUpdateSlice_eq_updateSlice _ _ _ _ _ (by
      intro a; fin_cases a
      · show (min (max ((Scf.iv 0#32 1#32 k).toInt) 0) ((3999 - 1 : ℕ) : ℤ)).toNat = k
        rw [counter_toInt hk]; omega
      · rfl
      · rfl
      · rfl) _
  rw [h]
  by_cases h : t.val = k
  · pointwise
    rw [dif_pos (by have := q.isLt; have := b.isLt; have := f.isLt; simp; omega), if_pos h]
  · pointwise
    rw [dif_neg (by simp; omega), if_neg h]

/-! ## The trips -/

variable (m : (ℓ : Loc nD τ sig) → Buf (Elt Ideal) ℓ) (c : Dev nD)

/-- The moving average of the reference: of coefficients `s`, started at `e`, over the samples `xs`. -/
def avg (s e : EReal) (xs : ℕ → EReal) : ℕ → EReal
  | 0 => e
  | k + 1 => (1 - s) * avg s e xs k + s * xs k

theorem trip_carry (k : ℕ) : atK m (k + 1) c (Proc.devRef .tc main_v14_3)
    = nextCarry (atK m k c (Proc.devRef .tc main_v14_0)) (atK m k c (Proc.devRef .tc main_v14_1)) (atK m k c (Proc.devRef .tc main_v14_2)) (atK m k c (Proc.devRef .tc main_v14_3)) :=
  ((trip_agree (atK m k c)) main_v14_3 (by decide)).trans (STEP_main_v14_3 _)
theorem trip_rows (k : ℕ) : atK m (k + 1) c (Proc.devRef .tc main_v14_4)
    = nextRows (atK m k c (Proc.devRef .tc main_v14_2)) (atK m k c (Proc.devRef .tc main_v14_4)) (atK m (k + 1) c (Proc.devRef .tc main_v14_3)) := by
  rw [trip_carry]
  exact ((trip_agree (atK m k c)) main_v14_4 (by decide)).trans (STEP_main_v14_4 _)
theorem trip_samples : ∀ k, atK m k c (Proc.devRef .tc main_v14_0) = entryContents preI m c (Proc.devRef .tc main_v14_0)
  | 0 => rfl
  | k + 1 => (((trip_agree (atK m k c)) main_v14_0 (by decide)).trans (STEP_main_v14_0 _)).trans (trip_samples k)
theorem trip_coeffs : ∀ k, atK m k c (Proc.devRef .tc main_v14_1) = entryContents preI m c (Proc.devRef .tc main_v14_1)
  | 0 => rfl
  | k + 1 => (((trip_agree (atK m k c)) main_v14_1 (by decide)).trans (STEP_main_v14_1 _)).trans (trip_coeffs k)

/-- The samples, the coefficients and the first carry, at the loop's entry. -/
abbrev samples0 : FVec Ideal S3999x16x128 .f32 := entryContents preI m c (Proc.devRef .tc main_v14_0)
abbrev coeffs0 : FVec Ideal S10x1x128 .f32 := entryContents preI m c (Proc.devRef .tc main_v14_1)
abbrev carry0 : FVec Ideal S10x16x128 .f32 := entryContents preI m c (Proc.devRef .tc main_v14_3)

/-- The moving average of rate `q`, batch `b` and frequency `f` after `k` further samples. -/
def avgAt (q : Fin 10) (b : Fin 16) (f : Fin 128) : ℕ → EReal :=
  avg (coeffs0 m c (ix3 q 0 f)) (carry0 m c (ix3 q b f)) (fun k => samples0 m c (ix3 (⟨k % 3999, Nat.mod_lt _ (by decide)⟩ : Fin 3999) b f))

theorem carry_at (q : Fin 10) (b : Fin 16) (f : Fin 128) : ∀ k, k ≤ 3999 →
    (atK m k c (Proc.devRef .tc main_v14_3) : FVec Ideal S10x16x128 .f32) (ix3 q b f) = avgAt m c q b f k
  | 0, _ => rfl
  | k + 1, hk => by
    have hk' : k < 3999 := hk
    rw [trip_carry, trip_samples, trip_coeffs, atK_ctr]
    refine (nextCarry_apply _ _ _ hk' q b f).trans ?_
    rw [carry_at q b f k hk'.le]
    simp only [avgAt, avg, Nat.mod_eq_of_lt hk']

theorem rows_at (q : Fin 10) (b : Fin 16) (f : Fin 128) (t : Fin 3999) : ∀ k, k ≤ 3999 → t.val < k →
    (atK m k c (Proc.devRef .tc main_v14_4) : FVec Ideal S3999x10x16x128 .f32) (ix4 t q b f) = avgAt m c q b f (t.val + 1)
  | 0, _, h => absurd h (Nat.not_lt_zero _)
  | k + 1, hk, h => by
    have hk' : k < 3999 := hk
    rw [trip_rows, atK_ctr]
    refine (nextRows_apply _ _ hk' t q b f).trans ?_
    by_cases ht : t.val = k
    · rw [if_pos ht, carry_at m c q b f (k + 1) hk, ht]
    · rw [if_neg ht, rows_at q b f t k hk'.le (by omega)]

end Cert.ReferenceIdeal.Scan
end
-- ==== Proof.ReferenceValue.lean ====
/- The reference's result at an index: the compression of the sample and of its moving average. -/
module

public import proofs.«01_k».proof.Proof.ReferenceLoop
public import proofs.«01_k».proof.Proof.PcenMath

@[expose] public section

set_option maxRecDepth 16384

noncomputable section

namespace Cert.ReferenceIdeal.Scan

open Cert.ReferenceIdeal.Gen Cert.ReferenceIdeal.Value
open Idealize.ShloMosaic Idealize.ShloMosaic.TcCoe Idealize.ShloMosaic.StableHlo
open Idealize.SL Idealize.SL.Sem

/-! ## Before the loop -/

/-- The operands the loop and the tail take, of the arguments. -/
def laterSamples (x : FVec Ideal S16x128x4000 .f32) : FVec Ideal S3999x16x128 .f32 :=
  extractStridedSlice S3999x16x128 ![1, 0, 0] (transpose S4000x16x128 [2, 0, 1] x transposes_S16x128x4000_S4000x16x128_2_0_1) slices_S4000x16x128_S3999x16x128_1_0_0
def rates (s : FVec Ideal S10x128 .f32) : FVec Ideal S10x1x128 .f32 :=
  broadcastInDim S10x1x128 ![0, 2] bcast_S10x128_S10x1x128_0_2 (Host.exp s)
def firstSamples (x : FVec Ideal S16x128x4000 .f32) : FVec Ideal S10x16x128 .f32 :=
  broadcastInDim S10x16x128 ![1, 2] bcast_S16x128_S10x16x128_1_2 (shapeCast S16x128 (extractStridedSlice S16x128x1 ![0, 0, 0] x slices_S16x128x4000_S16x128x1_0_0_0) shapeCasts_S16x128x1_S16x128)
def column (v : FVec Ideal S128 .f32) : FVec Ideal S128x1 .f32 := broadcastInDim S128x1 ![0] bcast_S128_S128x1_0 (Host.exp v)

theorem laterSamples_apply (x : FVec Ideal S16x128x4000 .f32) (t : Fin 3999) (b : Fin 16) (f : Fin 128) (h : t.val + 1 < 4000) :
    laterSamples x (ix3 t b f) = x (ix3 b f ⟨t.val + 1, h⟩) := by
  unfold laterSamples
  pointwise
  congr 2
  apply Fin.ext
  show 1 + t.val = t.val + 1
  omega
theorem rates_apply (s : FVec Ideal S10x128 .f32) (q : Fin 10) (f : Fin 128) : rates s (ix3 q 0 f) = Ideal.exp (s (ix2 q f)) := by
  unfold rates
  pointwise
set_option backward.isDefEq.respectTransparency false in
theorem firstSamples_apply (x : FVec Ideal S16x128x4000 .f32) (q : Fin 10) (b : Fin 16) (f : Fin 128) :
    firstSamples x (ix3 q b f) = x (ix3 b f 0) := by
  have e : shapeCast S16x128 (extractStridedSlice S16x128x1 ![0, 0, 0] x slices_S16x128x4000_S16x128x1_0_0_0) shapeCasts_S16x128x1_S16x128 (ix2 b f) = x (ix3 b f 0) := by
    rw [Idealize.ShloMosaic.shapeCast_apply _ _ _ (ix3 (n0 := 16) (n1 := 128) (n2 := 1) b f 0) (by simp [Shape.rowMajor_val_two, Shape.rowMajor_val_three])]
    exact extractStridedSlice_apply ![0, 0, 0] x _ (ix3 (n0 := 16) (n1 := 128) (n2 := 1) b f 0) (ix3 b f (0 : Fin 4000)) (by intro i; fin_cases i <;> simp)
  unfold firstSamples
  pointwise
  rw [e]
theorem column_apply (v : FVec Ideal S128 .f32) (f : Fin 128) : column v (ix2 f 0) = Ideal.exp (v (ix1 f)) := by
  unfold column
  pointwise

variable (m : (ℓ : Loc nD τ sig) → Buf (Elt Ideal) ℓ) (c : Dev nD)

/-- The arguments. -/
abbrev argX : FVec Ideal S16x128x4000 .f32 := m (c, Proc.devRef .tc main_arg0)
abbrev argS : FVec Ideal S10x128 .f32 := m (c, Proc.devRef .tc main_arg1)
abbrev argA : FVec Ideal S128 .f32 := m (c, Proc.devRef .tc main_arg2)
abbrev argD : FVec Ideal S128 .f32 := m (c, Proc.devRef .tc main_arg3)
abbrev argR : FVec Ideal S128 .f32 := m (c, Proc.devRef .tc main_arg4)

theorem entry_samples : samples0 m c = laterSamples (argX m c) := by
  show after hostOps0 _ _ = _
  after_results
  all_goals rfl
theorem entry_rates : coeffs0 m c = rates (argS m c) := by
  show after hostOps0 _ _ = _
  after_results
  all_goals rfl
theorem entry_carry : carry0 m c = firstSamples (argX m c) := by
  show after hostOps0 _ _ = _
  after_results
  all_goals rfl
theorem entry_first : entryContents preI m c (Proc.devRef .tc main_v10) = firstSamples (argX m c) := by
  show after hostOps0 _ _ = _
  after_results
  all_goals rfl
theorem entry_alpha : entryContents preI m c (Proc.devRef .tc main_v2) = column (argA m c) := by
  show after hostOps0 _ _ = _
  after_results
  all_goals rfl
theorem entry_delta : entryContents preI m c (Proc.devRef .tc main_v4) = column (argD m c) := by
  show after hostOps0 _ _ = _
  after_results
  all_goals rfl
theorem entry_power : entryContents preI m c (Proc.devRef .tc main_v6) = column (argR m c) := by
  show after hostOps0 _ _ = _
  after_results
  all_goals rfl
theorem entry_x : entryContents preI m c (Proc.devRef .tc main_arg0) = argX m c := by
  show after hostOps0 _ _ = _
  rw [after_of_writes_sub hostOps0 _ hostOps0_writes (by decide)]

/-! ## After the loop -/

/-- The moving averages, laid out by rate, batch, frequency and time. -/
def averages (first : FVec Ideal S10x16x128 .f32) (rows : FVec Ideal S3999x10x16x128 .f32) : FVec Ideal S10x16x128x4000 .f32 :=
  transpose S10x16x128x4000 [1, 2, 3, 0] (concatenate S4000x10x16x128 0 [⟨S1x10x16x128, broadcastInDim S1x10x16x128 ![1, 2, 3] bcast_S10x16x128_S1x10x16x128_1_2_3 first⟩, ⟨S3999x10x16x128, rows⟩] concatenates_S1x10x16x128_S3999x10x16x128_S4000x10x16x128_d0)
    transposes_S4000x10x16x128_S10x16x128x4000_1_2_3_0
/-- A column over the result's axes. -/
def spread (v : FVec Ideal S128x1 .f32) : FVec Ideal S10x16x128x4000 .f32 :=
  broadcastInDim S10x16x128x4000 ![0, 1, 2, 3] bcast_S1x1x128x1_S10x16x128x4000_0_1_2_3 (broadcastInDim S1x1x128x1 ![2, 3] bcast_S128x1_S1x1x128x1_2_3 v)
/-- The compression, over whole arrays. -/
def compressed (x : FVec Ideal S16x128x4000 .f32) (M : FVec Ideal S10x16x128x4000 .f32) (al dl r : FVec Ideal S128x1 .f32) : FVec Ideal S16x10x128x4000 .f32 :=
  transpose S16x10x128x4000 [1, 0, 2, 3]
    (subf (Host.powf (addf (mulf
        (broadcastInDim S10x16x128x4000 ![0, 1, 2, 3] bcast_S1x16x128x4000_S10x16x128x4000_0_1_2_3 (broadcastInDim S1x16x128x4000 ![1, 2, 3] bcast_S16x128x4000_S1x16x128x4000_1_2_3 x))
        (Host.exp (mulf (spread (Host.negf al)) (addf (broadcastInDim S10x16x128x4000 ![] bcast_S_S10x16x128x4000 (Host.log (constant S_ .f32 0x3727C5AC#32)))
          (Host.log1p (Host.divf M (broadcastInDim S10x16x128x4000 ![] bcast_S_S10x16x128x4000 (constant S_ .f32 0x3727C5AC#32)))))))) (spread dl)) (spread r))
      (spread (Host.powf dl r)))
    transposes_S10x16x128x4000_S16x10x128x4000_1_0_2_3

set_option maxHeartbeats 2000000 in
theorem tail_eq (W : Valuation τ sig (Elt Ideal)) : after hostOps0_1 W (Proc.devRef .tc main_v42)
    = compressed (W (Proc.devRef .tc main_arg0)) (averages (W (Proc.devRef .tc main_v10)) (W (Proc.devRef .tc main_v14_4))) (W (Proc.devRef .tc main_v2)) (W (Proc.devRef .tc main_v4)) (W (Proc.devRef .tc main_v6)) := by
  after_results
  all_goals rfl

theorem averages_apply (first : FVec Ideal S10x16x128 .f32) (rows : FVec Ideal S3999x10x16x128 .f32) (q : Fin 10) (b : Fin 16) (f : Fin 128) (t : Fin 4000) :
    averages first rows (ix4 q b f t) = if h : t.val < 1 then first (ix3 q b f) else rows (ix4 ⟨t.val - 1, by have := t.isLt; omega⟩ q b f) := by
  unfold averages
  pointwise
  by_cases h : t.val < 1
  · rw [dif_pos h]
    have hi : ∀ i : Fin 4, (ix4 (n0 := 1) (n1 := 10) (n2 := 16) (n3 := 128) ⟨t.val, h⟩ q b f i).val = (ix4 (n0 := 4000) (n1 := 10) (n2 := 16) (n3 := 128) t q b f i).val := by
      intro i; fin_cases i <;> rfl
    refine (concatenate_pair_apply_left (t := S4000x10x16x128) (s₁ := S1x10x16x128) (s₂ := S3999x10x16x128) 0 _ rows _ (ix4 (n0 := 4000) (n1 := 10) (n2 := 16) (n3 := 128) t q b f) rfl (ix4 (n0 := 1) (n1 := 10) (n2 := 16) (n3 := 128) ⟨t.val, h⟩ q b f) hi).trans ?_
    pointwise
  · rw [dif_neg h]
    have hlt : t.val - 1 < 3999 := by have := t.isLt; omega
    have hi : ∀ i : Fin 4, i ≠ 0 → (ix4 (n0 := 3999) (n1 := 10) (n2 := 16) (n3 := 128) ⟨t.val - 1, hlt⟩ q b f i).val = (ix4 (n0 := 4000) (n1 := 10) (n2 := 16) (n3 := 128) t q b f i).val := by
      intro i hi; fin_cases i
      · exact absurd rfl hi
      all_goals rfl
    exact concatenate_pair_apply_right (t := S4000x10x16x128) (s₁ := S1x10x16x128) (s₂ := S3999x10x16x128) 0 _ rows _ (ix4 (n0 := 4000) (n1 := 10) (n2 := 16) (n3 := 128) t q b f) rfl rfl (ix4 (n0 := 3999) (n1 := 10) (n2 := 16) (n3 := 128) ⟨t.val - 1, hlt⟩ q b f) hi
      (show t.val - 1 + 1 = t.val by omega)
theorem spread_apply (v : FVec Ideal S128x1 .f32) (q : Fin 10) (b : Fin 16) (f : Fin 128) (t : Fin 4000) : spread v (ix4 q b f t) = v (ix2 f 0) := by
  unfold spread
  pointwise
theorem compressed_apply (x : FVec Ideal S16x128x4000 .f32) (M : FVec Ideal S10x16x128x4000 .f32) (al dl r : FVec Ideal S128x1 .f32) (b : Fin 16) (q : Fin 10) (f : Fin 128) (t : Fin 4000) :
    compressed x M al dl r (ix4 b q f t)
      = Cert.Pcen.plain (Ideal.ofBits .f32 0x3727C5AC#32) (x (ix3 b f t)) (M (ix4 q b f t)) (al (ix2 f 0)) (r (ix2 f 0)) (dl (ix2 f 0)) := by
  unfold compressed
  pointwise [spread_apply]
  rfl

/-- THE RESULT at an index. -/
theorem result_at (b : Fin 16) (q : Fin 10) (f : Fin 128) (t : Fin 4000) :
    (after hostOps0_1 (left m c) (Proc.devRef .tc main_v42) : FVec Ideal S16x10x128x4000 .f32) (ix4 b q f t)
      = Cert.Pcen.plain (Ideal.ofBits .f32 0x3727C5AC#32) (argX m c (ix3 b f t))
          (avg (Ideal.exp (argS m c (ix2 q f))) (argX m c (ix3 b f 0)) (fun k => argX m c (ix3 b f ⟨k % 3999 + 1, by have := Nat.mod_lt k (show 3999 > 0 by decide); omega⟩)) t.val)
          (Ideal.exp (argA m c (ix1 f))) (Ideal.exp (argR m c (ix1 f))) (Ideal.exp (argD m c (ix1 f))) := by
  have hA : avgAt m c q b f = avg (Ideal.exp (argS m c (ix2 q f))) (argX m c (ix3 b f 0)) (fun k => argX m c (ix3 b f ⟨k % 3999 + 1, by have := Nat.mod_lt k (show 3999 > 0 by decide); omega⟩)) := by
    unfold avgAt
    rw [entry_samples, entry_rates, entry_carry, rates_apply, firstSamples_apply]
    congr 1
    funext k
    exact laterSamples_apply _ _ _ _ _
  rw [tail_eq, left_keeps m c main_arg0 (by decide), left_keeps m c main_v10 (by decide), left_keeps m c main_v2 (by decide), left_keeps m c main_v4 (by decide),
    left_keeps m c main_v6 (by decide), entry_x, entry_first, entry_alpha, entry_delta, entry_power, ← hA]
  refine (compressed_apply _ _ _ _ _ b q f t).trans ?_
  rw [column_apply, column_apply, column_apply, averages_apply]
  congr 1
  by_cases h : t.val < 1
  · have h0 : t.val = 0 := by omega
    rw [dif_pos h, h0, hA]
    exact firstSamples_apply _ _ _ _
  · rw [dif_neg h]
    have hr : left m c (Proc.devRef .tc main_v14_4) = atK m 3999 c (Proc.devRef .tc main_v14_4) := cond_keeps _ main_v14_4 (by decide)
    rw [hr]
    have hlt : t.val - 1 < 3999 := by have := t.isLt; omega
    refine (rows_at m c q b f ⟨t.val - 1, hlt⟩ 3999 le_rfl hlt).trans ?_
    congr 1
    show t.val - 1 + 1 = t.val
    omega

end Cert.ReferenceIdeal.Scan
end
-- ==== Proof.Domain.lean ====
/- The precondition read at an element: the samples are nonnegative reals, the logarithms of the rates negative. -/
module

public import proofs.«01_k».proof.Pre_domain
public import Idealize.ShloMosaic.Lib.ReduceAll
public import Idealize.ShloMosaic.Lib.Pointwise.Tactic

@[expose] public section

set_option maxRecDepth 16384

noncomputable section

namespace Cert.Domain

open Idealize.ShloMosaic Cert.Pre_domain

/-- The side conditions the predicate states. -/
theorem facts : Cert.Pre_domain.Facts where
  bcast_S_S16x128x4000 := by decide
  reducesTo_S16x128x4000_S_d0_1_2 := by decide
  h_S_ := by decide
  bcast_S_S10x128 := by decide
  reducesTo_S10x128_S_d0_1 := by decide

instance one_index : Subsingleton S_.Idx := ⟨fun a b => funext fun i => i.elim0⟩

theorem word_inf : Ideal.ofBits .f32 0x7F800000#32 = ⊤ := by
  simp [Ideal.ofBits, Ideal.ieee]

theorem of_word {p : Prop} [Decidable p] (h : BitVec.ofBool (decide p) = 1#1) : p := by
  by_contra hp
  simp [hp] at h

variable [hF : Cert.Pre_domain.Facts] {x : FVec Ideal S16x128x4000 .f32} {s : FVec Ideal S10x128 .f32} {a d r : FVec Ideal S128 .f32}

theorem reads (h : ∀ i, Cert.Pre_domain.fn (F := Ideal) x s a d r i = 1#1) :
    (∀ i, 0 ≤ x i) ∧ (∀ i, x i < ⊤) ∧ ∀ i, s i < 0 := by
  have h0 := h ix0
  unfold Cert.Pre_domain.fn at h0
  obtain ⟨h12, h3⟩ := IntOp.andi_eq_one.1 h0
  obtain ⟨h1, h2⟩ := IntOp.andi_eq_one.1 h12
  refine ⟨fun i => ?_, fun i => ?_, fun i => ?_⟩
  · have e := Host.reduce_andi_all _ _ _ _ _ h1 i
    have e' : FloatOps.cmpf (F := Ideal) .oge (x i) (Ideal.ofBits .f32 0x00000000#32) = 1#1 := e
    rw [Ideal.ofBits_zero_f32] at e'
    exact of_word e'
  · have e := Host.reduce_andi_all _ _ _ _ _ h2 i
    have e' : FloatOps.cmpf (F := Ideal) .olt (x i) (Ideal.ofBits .f32 0x7F800000#32) = 1#1 := e
    rw [word_inf] at e'
    exact of_word e'
  · have e := Host.reduce_andi_all _ _ _ _ _ h3 i
    have e' : FloatOps.cmpf (F := Ideal) .olt (s i) (Ideal.ofBits .f32 0x00000000#32) = 1#1 := e
    rw [Ideal.ofBits_zero_f32] at e'
    exact of_word e'

/-- A sample is a nonnegative real. -/
theorem real_of {v : EReal} (h0 : 0 ≤ v) (h1 : v < ⊤) : (v.toReal : EReal) = v ∧ 0 ≤ v.toReal :=
  ⟨EReal.coe_toReal h1.ne (fun hb => by rw [hb] at h0; exact absurd h0 (by simp)), EReal.toReal_nonneg h0⟩
/-- A rate, the exponential of a negative number, lies between 0 and 1. -/
theorem rate_of {v : EReal} (h : v < 0) : ∃ σ : ℝ, Ideal.exp v = (σ : EReal) ∧ 0 ≤ σ ∧ σ < 1 := by
  induction v with
  | bot => exact ⟨0, by simp, le_rfl, one_pos⟩
  | top => exact absurd h (by simp)
  | coe r => exact ⟨Real.exp r, rfl, (Real.exp_pos r).le, by rw [← Real.exp_zero]; exact Real.exp_lt_exp.mpr (by exact_mod_cast h)⟩

end Cert.Domain
end
-- ==== Proof.Equal.lean ====
/- The two programs' results agree: index by index, the compression of the same sample and the same moving average. -/
module

public import proofs.«01_k».proof.Defs
public import proofs.«01_k».proof.Proof.KernelIdealOutput
public import proofs.«01_k».proof.Proof.ReferenceValue
public import proofs.«01_k».proof.Proof.Domain

@[expose] public section

set_option maxRecDepth 16384

noncomputable section

namespace Cert.Equal

open Idealize.ShloMosaic Idealize.ShloMosaic.TcCoe Idealize.ShloMosaic.StableHlo

/-- The reference's average over real samples is the moving average of reals. -/
theorem avg_real (σ : ℝ) (X : ℕ → ℝ) (xs : ℕ → EReal) (e : EReal) (he : e = (X 0 : EReal)) (t : ℕ) (h : ∀ k < t, xs k = (X (k + 1) : EReal)) :
    Cert.ReferenceIdeal.Scan.avg (σ : EReal) e xs t = (Cert.Scan.ema (1 - σ) σ X t : EReal) := by
  induction t with
  | zero => exact he
  | succ t ih =>
    rw [Cert.ReferenceIdeal.Scan.avg, ih (fun k hk => h k (by omega)), h t (by omega), ← EReal.coe_one, ← EReal.coe_sub, ← EReal.coe_mul, ← EReal.coe_mul, ← EReal.coe_add]
    rfl

variable [hP : Cert.Pre_domain.Facts]
  {m : (ℓ : Loc Cert.KernelIdeal.nD Cert.KernelIdeal.τ Cert.KernelIdeal.sig) → Buf (Elt Ideal) ℓ}
  {m' : (ℓ : Loc Cert.ReferenceIdeal.nD Cert.ReferenceIdeal.τ Cert.ReferenceIdeal.sig) → Buf (Elt Ideal) ℓ}

/-- THE RESULTS ARE EQUAL under the precondition, from equal arguments. -/
theorem results_eq (c : Dev Cert.KernelIdeal.nD)
    (hpre : Cert.Pre_domain.fn (F := Ideal) (Cert.KernelIdeal.Host.argX m c) (Cert.KernelIdeal.Host.argS m c) (Cert.KernelIdeal.Host.argA m c) (Cert.KernelIdeal.Host.argD m c) (Cert.KernelIdeal.Host.argR m c) = fun _ => 1#1)
    (h0 : Cert.ReferenceIdeal.Scan.argX m' c = Cert.KernelIdeal.Host.argX m c) (h1 : Cert.ReferenceIdeal.Scan.argS m' c = Cert.KernelIdeal.Host.argS m c)
    (h2 : Cert.ReferenceIdeal.Scan.argA m' c = Cert.KernelIdeal.Host.argA m c) (h3 : Cert.ReferenceIdeal.Scan.argD m' c = Cert.KernelIdeal.Host.argD m c)
    (h4 : Cert.ReferenceIdeal.Scan.argR m' c = Cert.KernelIdeal.Host.argR m c) :
    (after Cert.ReferenceIdeal.Gen.hostOps0_1 (Cert.ReferenceIdeal.Scan.left m' c) (Proc.devRef .tc Cert.ReferenceIdeal.main_v42) : FVec Ideal Cert.KernelIdeal.S16x10x128x4000 .f32)
      = Cert.KernelIdeal.Behind.output m c := by
  obtain ⟨hx0, hx1, hs⟩ := Cert.Domain.reads (fun i => congrFun hpre i)
  have hx : ∀ i, ((Cert.KernelIdeal.Host.argX m c i).toReal : EReal) = Cert.KernelIdeal.Host.argX m c i := fun i => (Cert.Domain.real_of (hx0 i) (hx1 i)).1
  have hx' : ∀ i, 0 ≤ (Cert.KernelIdeal.Host.argX m c i).toReal := fun i => (Cert.Domain.real_of (hx0 i) (hx1 i)).2
  funext j
  obtain ⟨b, q, f, t, rfl⟩ : ∃ (b : Fin 16) (q : Fin 10) (f : Fin 128) (t : Fin 4000), j = ix4 b q f t := ⟨j 0, j 1, j 2, j 3, (ix4_eta j).symm⟩
  obtain ⟨σ, e, hσ0, hσ1⟩ := Cert.Domain.rate_of (hs (ix2 q f))
  refine (Cert.ReferenceIdeal.Scan.result_at m' c b q f t).trans ?_
  refine Eq.trans ?_ (Cert.KernelIdeal.Host.output_at b q f t hx hx' e hσ0 hσ1).symm
  have ht := t.isLt
  rw [h0, h1, h2, h3, h4, e]
  congr 1
  refine avg_real σ (Cert.KernelIdeal.Host.rowAt m c b f) _ _ ?_ t.val fun k hk => ?_
  · unfold Cert.KernelIdeal.Host.rowAt
    rw [dif_pos (by decide)]
    exact (hx _).symm
  · have hk' : k % 3999 = k := Nat.mod_eq_of_lt (by omega)
    unfold Cert.KernelIdeal.Host.rowAt
    rw [dif_pos (by omega), hx]
    simp only [hk']

end Cert.Equal
end
-- ==== Proof.lean ====
/- The certificate: each program's run gives its frame, the idealized kernel is the kernel with one constant named, and the
   results of the idealized kernel and of the reference are equal. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelRun
public import proofs.«01_k».proof.Proof.KernelIdealRun
public import proofs.«01_k».proof.Proof.ReferenceRun
public import proofs.«01_k».proof.Proof.Equal
public import Idealize.ShloMosaic.Adequacy
public import Idealize.ShloMosaic.Init

@[expose] public section

noncomputable section

namespace Cert.Proof

open Idealize.ShloMosaic Idealize.SL.Sem Cert.Kernel

/-- Equal results: the kernel's run ends with `output`, the reference's with an array equal to it. -/
theorem equal_results [hP : Cert.Pre_domain.Facts] : algebraic_KernelIdeal_ReferenceIdeal_pre_domain (hKernelIdeal := Cert.KernelIdeal.Gen.facts) (hReferenceIdeal := Cert.ReferenceIdeal.Gen.facts) (hPre_domain := hP) :=
  fun m g m' g' hpre hargs => ⟨fun c => Cert.KernelIdeal.Behind.output m c,
    (θ_run _ _ _).mono (fun _ h c => ⟨h.2 c, h.1.1 c⟩) (Cert.KernelIdeal.Behind.run_value m g),
    (θ_run _ _ _).mono (fun _ h c => ⟨(h.2 c).trans (Cert.Equal.results_eq c (hpre c) (hargs c).1 (hargs c).2.1 (hargs c).2.2.1 (hargs c).2.2.2.1 (hargs c).2.2.2.2), h.1.1 c⟩)
      (Cert.ReferenceIdeal.Scan.run_value m' g')⟩

/-- The frames of the three programs, the one rewrite between the two kernels, and the equal results. -/
theorem claim : Cert.Claim := ⟨Cert.Kernel.Gen.facts, Cert.KernelIdeal.Gen.facts, Cert.ReferenceIdeal.Gen.facts, Cert.Domain.facts,
  fun m g _ => (θ_run _ _ _).mono (fun _ h => h.1) (Cert.Kernel.Behind.run_value m g),
  fun m g _ => (θ_run _ _ _).mono (fun _ h => h.1) (Cert.KernelIdeal.Behind.run_value m g),
  fun m g _ => (θ_run _ _ _).mono (fun _ h => h.1) (Cert.KernelIdeal.Behind.run_value m g),
  fun m g _ => (θ_run _ _ _).mono (fun _ h => h.1) (Cert.ReferenceIdeal.Scan.run_value m g),
  fun m g _ => (θ_run _ _ _).mono (fun _ h => h.1) (Cert.ReferenceIdeal.Scan.run_value m g),
  IdealRules.named_const.statement Cert.KernelIdeal.κ "inv_ln2" .f32 0x3FB8AA3B#32 _ rfl,
  equal_results (hP := Cert.Domain.facts)⟩

end Cert.Proof

end
